-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codebooks [hPre_finite_codebooks : Cert.Pre_finite_codebooks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codebooks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codebooks [hPre_finite_codebooks : Cert.Pre_finite_codebooks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codebooks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_codebooks [hKernelIdeal : Cert.KernelIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codebooks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_codebooks [hReferenceIdeal : Cert.ReferenceIdeal.Facts] [hPre_finite_codebooks : Cert.Pre_finite_codebooks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codebooks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_codebooks [hKernelIdeal : Cert.KernelIdeal.Facts] [hReferenceIdeal : Cert.ReferenceIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codebooks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_v140) = v3 c
          ∧ r.2.mem ((c.tc : Thread Cert.ReferenceIdeal.nD Cert.ReferenceIdeal.τ).loc Cert.ReferenceIdeal.main_v145) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_codebooks : Cert.Pre_finite_codebooks.Facts),
    quiescent_Kernel (hKernel := hKernel)
    ∧ quiescent_KernelIdeal (hKernelIdeal := hKernelIdeal)
    ∧ quiescent_KernelIdeal_pre_finite_codebooks (hKernelIdeal := hKernelIdeal) (hPre_finite_codebooks := hPre_finite_codebooks)
    ∧ quiescent_ReferenceIdeal (hReferenceIdeal := hReferenceIdeal)
    ∧ quiescent_ReferenceIdeal_pre_finite_codebooks (hReferenceIdeal := hReferenceIdeal) (hPre_finite_codebooks := hPre_finite_codebooks)
    ∧ preserves_Kernel_KernelIdeal
    ∧ algebraic_KernelIdeal_ReferenceIdeal_pre_finite_codebooks (hKernelIdeal := hKernelIdeal) (hReferenceIdeal := hReferenceIdeal) (hPre_finite_codebooks := hPre_finite_codebooks)
-- ==== Pre_finite_codebooks.lean ====
abbrev S16384x32 : Shape := ⟨2, ![16384, 32]⟩
abbrev S4x1024x32 : Shape := ⟨3, ![4, 1024, 32]⟩
abbrev S_ : Shape := ⟨0, ![]⟩

class Facts : Prop where
  bcast_S_S4x1024x32 : S_.BroadcastsInDim S4x1024x32 (![] : Fin 0 → Fin S4x1024x32.rank)

variable [Facts]

def fn {F : FTy → Type} [FloatOps F] (main_arg0 : FVec F S16384x32 .f32) (main_arg1 : FVec F S4x1024x32 .f32) : IVec S4x1024x32 1 :=
  let main_v0 : FVec F S4x1024x32 .f32 := Host.absf main_arg1
  let main_cst : FVec F S_ .f32 := constant S_ .f32 0x7F800000#32
  let main_v1 : FVec F S4x1024x32 .f32 := broadcastInDim S4x1024x32 ![] bcast_S_S4x1024x32 main_cst
  let main_v2 : IVec S4x1024x32 1 := cmpf .olt main_v0 main_v1
  main_v2
-- ==== Kernel.lean ====
abbrev S16384x32 : Shape := ⟨2, ![16384, 32]⟩
abbrev S4x1024x32 : Shape := ⟨3, ![4, 1024, 32]⟩
abbrev S1x1 : Shape := ⟨2, ![1, 1]⟩
abbrev S4x16384 : Shape := ⟨2, ![4, 16384]⟩
abbrev S16384x4x1024 : Shape := ⟨3, ![16384, 4, 1024]⟩
abbrev S1024x32 : Shape := ⟨2, ![1024, 32]⟩
abbrev S4x1024 : Shape := ⟨2, ![4, 1024]⟩
abbrev S1024x4x1024 : Shape := ⟨3, ![1024, 4, 1024]⟩
abbrev S1024x1024 : Shape := ⟨2, ![1024, 1024]⟩
abbrev S1x1024x32 : Shape := ⟨3, ![1, 1024, 32]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S1024x1x1024 : Shape := ⟨3, ![1024, 1, 1024]⟩
abbrev S1 : Shape := ⟨1, ![1]⟩
abbrev S1x1x1 : Shape := ⟨3, ![1, 1, 1]⟩
abbrev S_ : Shape := ⟨0, ![]⟩
abbrev S16384x4 : Shape := ⟨2, ![16384, 4]⟩

abbrev nBuf : Space → Nat
  | .hbm => 11
  | .vmem => 12
  | .smem => 0
  | _ => 0

abbrev bufTy : (tb : Table) → Fin (tcTables nBuf tb) → BufTy
  | .hbm, ⟨0, _⟩ => ⟨S16384x32, .f32⟩
  | .hbm, ⟨1, _⟩ => ⟨S4x1024x32, .f32⟩
  | .hbm, ⟨2, _⟩ => ⟨S16384x32, .f32⟩
  | .hbm, ⟨3, _⟩ => ⟨S16384x32, .f32⟩
  | .hbm, ⟨4, _⟩ => ⟨S1x1, .f32⟩
  | .hbm, ⟨5, _⟩ => ⟨S4x16384, .i32⟩
  | .hbm, ⟨6, _⟩ => ⟨S16384x4x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x4, .i32⟩
  | .local _ .vmem, ⟨0, _⟩ => ⟨S1024x32, .f32⟩
  | .local _ .vmem, ⟨1, _⟩ => ⟨S1024x32, .f32⟩
  | .local _ .vmem, ⟨2, _⟩ => ⟨S4x1024x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1x1, .f32⟩
  | .local _ .vmem, ⟨8, _⟩ => ⟨S4x1024, .i32⟩
  | .local _ .vmem, ⟨9, _⟩ => ⟨S4x1024, .i32⟩
  | .local _ .vmem, ⟨10, _⟩ => ⟨S1024x4x1024, .f32⟩
  | .local _ .vmem, ⟨11, _⟩ => ⟨S1024x4x1024, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x32 : Shape := ⟨2, ![16384, 32]⟩
abbrev S4x1024x32 : Shape := ⟨3, ![4, 1024, 32]⟩
abbrev S_ : Shape := ⟨0, ![]⟩
abbrev S1x1024x32 : Shape := ⟨3, ![1, 1024, 32]⟩
abbrev S1024x32 : Shape := ⟨2, ![1024, 32]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S32x1024 : Shape := ⟨2, ![32, 1024]⟩
abbrev S1 : Shape := ⟨1, ![1]⟩
abbrev S1x1 : Shape := ⟨2, ![1, 1]⟩
abbrev S4 : Shape := ⟨1, ![4]⟩
abbrev S16384x4 : Shape := ⟨2, ![16384, 4]⟩
abbrev S16384x1x1024 : Shape := ⟨3, ![16384, 1, 1024]⟩
abbrev S16384x4x1024 : Shape := ⟨3, ![16384, 4, 1024]⟩

abbrev nBuf : Space → Nat
  | .hbm => 287
  | .vmem => 0
  | .smem => 0
  | _ => 0

abbrev hbmTy0_0 (i : Nat) : BufTy := match i % 128 with
  | 0 => ⟨S16384x32, .f32⟩
  | 1 => ⟨S4x1024x32, .f32⟩
  | 2 => ⟨S_, .f32⟩
  | 3 => ⟨S16384x32, .f32⟩
  | 4 => ⟨S1x1024x32, .f32⟩
  | 5 => ⟨S1024x32, .f32⟩
  | 6 => ⟨S16384x32, .f32⟩
  | 7 => ⟨S_, .f32⟩
  | 8 => ⟨S16384, .f32⟩
  | 9 => ⟨S16384x1, .f32⟩
  | 10 => ⟨S1024x32, .f32⟩
  | 11 => ⟨S_, .f32⟩
  | 12 => ⟨S1024, .f32⟩
  | 13 => ⟨S1x1024, .f32⟩
  | 14 => ⟨S16384x1024, .f32⟩
  | 15 => ⟨S16384x1024, .f32⟩
  | 16 => ⟨S16384x1024, .f32⟩
  | 17 => ⟨S_, .f32⟩
  | 18 => ⟨S16384x32, .f32⟩
  | 19 => ⟨S16384x32, .f32⟩
  | 20 => ⟨S32x1024, .f32⟩
  | 21 => ⟨S16384x1024, .f32⟩
  | 22 => ⟨S16384x1024, .f32⟩
  | 23 => ⟨S16384x1024, .i32⟩
  | 24 => ⟨S_, .f32⟩
  | 25 => ⟨S_, .i32⟩
  | 26 => ⟨S16384, .f32⟩
  | 27 => ⟨S16384, .i32⟩
  | 28 => ⟨S_, .i32⟩
  | 29 => ⟨S16384, .i32⟩
  | 30 => ⟨S16384, .i1⟩
  | 31 => ⟨S_, .i32⟩
  | 32 => ⟨S16384, .i32⟩
  | 33 => ⟨S16384, .i32⟩
  | 34 => ⟨S16384, .i32⟩
  | 35 => ⟨S16384x1, .i32⟩
  | 36 => ⟨S1, .i32⟩
  | 37 => ⟨S_, .i32⟩
  | 38 => ⟨S16384x1, .i32⟩
  | 39 => ⟨S16384x1, .i1⟩
  | 40 => ⟨S1x1, .i32⟩
  | 41 => ⟨S16384x1, .i32⟩
  | 42 => ⟨S16384x1, .i1⟩
  | 43 => ⟨S16384x1, .i1⟩
  | 44 => ⟨S_, .i1⟩
  | 45 => ⟨S16384, .i1⟩
  | 46 => ⟨S16384x32, .f32⟩
  | 47 => ⟨S16384x32, .i1⟩
  | 48 => ⟨S_, .f32⟩
  | 49 => ⟨S16384x32, .f32⟩
  | 50 => ⟨S16384x32, .f32⟩
  | 51 => ⟨S16384x32, .f32⟩
  | 52 => ⟨S16384x32, .f32⟩
  | 53 => ⟨S_, .f32⟩
  | 54 => ⟨S_, .f32⟩
  | 55 => ⟨S_, .f32⟩
  | 56 => ⟨S_, .f32⟩
  | 57 => ⟨S16384x32, .f32⟩
  | 58 => ⟨S16384x32, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S16384x32, .f32⟩
  | 67 => ⟨S16384x32, .f32⟩
  | 68 => ⟨S16384x32, .f32⟩
  | 69 => ⟨S16384x32, .f32⟩
  | 70 => ⟨S1x1024x32, .f32⟩
  | 71 => ⟨S1024x32, .f32⟩
  | 72 => ⟨S16384x32, .f32⟩
  | 73 => ⟨S_, .f32⟩
  | 74 => ⟨S16384, .f32⟩
  | 75 => ⟨S16384x1, .f32⟩
  | 76 => ⟨S1024x32, .f32⟩
  | 77 => ⟨S_, .f32⟩
  | 78 => ⟨S1024, .f32⟩
  | 79 => ⟨S1x1024, .f32⟩
  | 80 => ⟨S16384x1024, .f32⟩
  | 81 => ⟨S16384x1024, .f32⟩
  | 82 => ⟨S16384x1024, .f32⟩
  | 83 => ⟨S_, .f32⟩
  | 84 => ⟨S16384x32, .f32⟩
  | 85 => ⟨S16384x32, .f32⟩
  | 86 => ⟨S32x1024, .f32⟩
  | 87 => ⟨S16384x1024, .f32⟩
  | 88 => ⟨S16384x1024, .f32⟩
  | 89 => ⟨S16384x1024, .i32⟩
  | 90 => ⟨S_, .f32⟩
  | 91 => ⟨S_, .i32⟩
  | 92 => ⟨S16384, .f32⟩
  | 93 => ⟨S16384, .i32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S1, .i32⟩
  | 103 => ⟨S_, .i32⟩
  | 104 => ⟨S16384x1, .i32⟩
  | 105 => ⟨S16384x1, .i1⟩
  | 106 => ⟨S1x1, .i32⟩
  | 107 => ⟨S16384x1, .i32⟩
  | 108 => ⟨S16384x1, .i1⟩
  | 109 => ⟨S16384x1, .i1⟩
  | 110 => ⟨S_, .i1⟩
  | 111 => ⟨S16384, .i1⟩
  | 112 => ⟨S16384x32, .f32⟩
  | 113 => ⟨S16384x32, .i1⟩
  | 114 => ⟨S_, .f32⟩
  | 115 => ⟨S16384x32, .f32⟩
  | 116 => ⟨S16384x32, .f32⟩
  | 117 => ⟨S16384x32, .f32⟩
  | 118 => ⟨S16384x32, .f32⟩
  | 119 => ⟨S_, .f32⟩
  | 120 => ⟨S_, .f32⟩
  | 121 => ⟨S_, .f32⟩
  | 122 => ⟨S_, .f32⟩
  | 123 => ⟨S16384x32, .f32⟩
  | 124 => ⟨S16384x32, .f32⟩
  | 125 => ⟨S_, .f32⟩
  | 126 => ⟨S_, .f32⟩
  | 127 => ⟨S_, .f32⟩
  | _ => ⟨S16384x32, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S16384x32, .f32⟩
  | 5 => ⟨S16384x32, .f32⟩
  | 6 => ⟨S16384x32, .f32⟩
  | 7 => ⟨S16384x32, .f32⟩
  | 8 => ⟨S1x1024x32, .f32⟩
  | 9 => ⟨S1024x32, .f32⟩
  | 10 => ⟨S16384x32, .f32⟩
  | 11 => ⟨S_, .f32⟩
  | 12 => ⟨S16384, .f32⟩
  | 13 => ⟨S16384x1, .f32⟩
  | 14 => ⟨S1024x32, .f32⟩
  | 15 => ⟨S_, .f32⟩
  | 16 => ⟨S1024, .f32⟩
  | 17 => ⟨S1x1024, .f32⟩
  | 18 => ⟨S16384x1024, .f32⟩
  | 19 => ⟨S16384x1024, .f32⟩
  | 20 => ⟨S16384x1024, .f32⟩
  | 21 => ⟨S_, .f32⟩
  | 22 => ⟨S16384x32, .f32⟩
  | 23 => ⟨S16384x32, .f32⟩
  | 24 => ⟨S32x1024, .f32⟩
  | 25 => ⟨S16384x1024, .f32⟩
  | 26 => ⟨S16384x1024, .f32⟩
  | 27 => ⟨S16384x1024, .i32⟩
  | 28 => ⟨S_, .f32⟩
  | 29 => ⟨S_, .i32⟩
  | 30 => ⟨S16384, .f32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S1, .i32⟩
  | 41 => ⟨S_, .i32⟩
  | 42 => ⟨S16384x1, .i32⟩
  | 43 => ⟨S16384x1, .i1⟩
  | 44 => ⟨S1x1, .i32⟩
  | 45 => ⟨S16384x1, .i32⟩
  | 46 => ⟨S16384x1, .i1⟩
  | 47 => ⟨S16384x1, .i1⟩
  | 48 => ⟨S_, .i1⟩
  | 49 => ⟨S16384, .i1⟩
  | 50 => ⟨S16384x32, .f32⟩
  | 51 => ⟨S16384x32, .i1⟩
  | 52 => ⟨S_, .f32⟩
  | 53 => ⟨S16384x32, .f32⟩
  | 54 => ⟨S16384x32, .f32⟩
  | 55 => ⟨S16384x32, .f32⟩
  | 56 => ⟨S16384x32, .f32⟩
  | 57 => ⟨S_, .f32⟩
  | 58 => ⟨S_, .f32⟩
  | 59 => ⟨S_, .f32⟩
  | 60 => ⟨S_, .f32⟩
  | 61 => ⟨S16384x32, .f32⟩
  | 62 => ⟨S16384x32, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S16384x32, .f32⟩
  | 71 => ⟨S16384x32, .f32⟩
  | 72 => ⟨S16384x32, .f32⟩
  | 73 => ⟨S16384x32, .f32⟩
  | 74 => ⟨S1x1024x32, .f32⟩
  | 75 => ⟨S1024x32, .f32⟩
  | 76 => ⟨S16384x32, .f32⟩
  | 77 => ⟨S_, .f32⟩
  | 78 => ⟨S16384, .f32⟩
  | 79 => ⟨S16384x1, .f32⟩
  | 80 => ⟨S1024x32, .f32⟩
  | 81 => ⟨S_, .f32⟩
  | 82 => ⟨S1024, .f32⟩
  | 83 => ⟨S1x1024, .f32⟩
  | 84 => ⟨S16384x1024, .f32⟩
  | 85 => ⟨S16384x1024, .f32⟩
  | 86 => ⟨S16384x1024, .f32⟩
  | 87 => ⟨S_, .f32⟩
  | 88 => ⟨S16384x32, .f32⟩
  | 89 => ⟨S16384x32, .f32⟩
  | 90 => ⟨S32x1024, .f32⟩
  | 91 => ⟨S16384x1024, .f32⟩
  | 92 => ⟨S16384x1024, .f32⟩
  | 93 => ⟨S16384x1024, .i32⟩
  | 94 => ⟨S_, .f32⟩
  | 95 => ⟨S_, .i32⟩
  | 96 => ⟨S16384, .f32⟩
  | 97 => ⟨S16384, .i32⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S16384x1, .i32⟩
  | 106 => ⟨S1, .i32⟩
  | 107 => ⟨S_, .i32⟩
  | 108 => ⟨S16384x1, .i32⟩
  | 109 => ⟨S16384x1, .i1⟩
  | 110 => ⟨S1x1, .i32⟩
  | 111 => ⟨S16384x1, .i32⟩
  | 112 => ⟨S16384x1, .i1⟩
  | 113 => ⟨S16384x1, .i1⟩
  | 114 => ⟨S_, .i1⟩
  | 115 => ⟨S16384, .i1⟩
  | 116 => ⟨S16384x32, .f32⟩
  | 117 => ⟨S16384x32, .i1⟩
  | 118 => ⟨S_, .f32⟩
  | 119 => ⟨S16384x32, .f32⟩
  | 120 => ⟨S16384x32, .f32⟩
  | 121 => ⟨S16384x32, .f32⟩
  | 122 => ⟨S16384x32, .f32⟩
  | 123 => ⟨S_, .f32⟩
  | 124 => ⟨S_, .f32⟩
  | 125 => ⟨S_, .f32⟩
  | 126 => ⟨S_, .f32⟩
  | 127 => ⟨S16384x32, .f32⟩
  | _ => ⟨S16384x32, .f32⟩

abbrev hbmTy0_2 (i : Nat) : BufTy := match i % 128 with
  | 0 => ⟨S16384x32, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S16384x32, .f32⟩
  | 9 => ⟨S16384x32, .f32⟩
  | 10 => ⟨S16384x32, .f32⟩
  | 11 => ⟨S16384x32, .f32⟩
  | 12 => ⟨S1, .f32⟩
  | 13 => ⟨S1, .f32⟩
  | 14 => ⟨S1, .f32⟩
  | 15 => ⟨S1, .f32⟩
  | 16 => ⟨S4, .f32⟩
  | 17 => ⟨S_, .f32⟩
  | 18 => ⟨S_, .f32⟩
  | 19 => ⟨S_, .f32⟩
  | 20 => ⟨S_, .f32⟩
  | 21 => ⟨S16384x1, .i32⟩
  | 22 => ⟨S16384x1, .i32⟩
  | 23 => ⟨S16384x1, .i32⟩
  | 24 => ⟨S16384x1, .i32⟩
  | 25 => ⟨S16384x4, .i32⟩
  | 26 => ⟨S16384x1x1024, .f32⟩
  | 27 => ⟨S16384x1x1024, .f32⟩
  | 28 => ⟨S16384x1x1024, .f32⟩
  | 29 => ⟨S16384x1x1024, .f32⟩
  | 30 => ⟨S16384x4x1024, .f32⟩
  | _ => ⟨S16384x32, .f32⟩

abbrev hbmTy (i : Nat) : BufTy := match i / 128 with
  | 0 => hbmTy0_0 i
  | 1 => hbmTy0_1 i
  | 2 => hbmTy0_2 i
  | _ => ⟨S16384x32, .f32⟩

abbrev bufTy : (tb : Table) → Fin (tcTables nBuf tb) → BufTy
  | .hbm, ⟨i, _⟩ => hbmTy i
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_8 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_9 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_10 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_call2_v0 : Ref sig .tc := ⟨.hbm, 89, rfl⟩
abbrev main_call2_cst : Ref sig .tc := ⟨.hbm, 90, rfl⟩
abbrev main_call2_c : Ref sig .tc := ⟨.hbm, 91, rfl⟩
abbrev main_call2_v1_0 : Ref sig .tc := ⟨.hbm, 92, rfl⟩
abbrev main_v49 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_cst_11 : Ref sig .tc := ⟨.hbm, 119, rfl⟩
abbrev main_v53 : Ref sig .tc := ⟨.hbm, 120, rfl⟩
abbrev main_cst_12 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_cst_13 : Ref sig .tc := ⟨.hbm, 125, rfl⟩
abbrev main_v57 : Ref sig .tc := ⟨.hbm, 126, rfl⟩
abbrev main_cst_14 : Ref sig .tc := ⟨.hbm, 127, rfl⟩
abbrev main_v58 : Ref sig .tc := ⟨.hbm, 128, rfl⟩
abbrev main_cst_15 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_cst_16 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_cst_17 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_cst_18 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_call4_v0 : Ref sig .tc := ⟨.hbm, 155, rfl⟩
abbrev main_call4_cst : Ref sig .tc := ⟨.hbm, 156, rfl⟩
abbrev main_call4_c : Ref sig .tc := ⟨.hbm, 157, rfl⟩
abbrev main_call4_v1_0 : Ref sig .tc := ⟨.hbm, 158, rfl⟩
abbrev main_v81 : Ref sig .tc := ⟨.hbm, 159, rfl⟩
abbrev main_call5_c : Ref sig .tc := ⟨.hbm, 160, rfl⟩
abbrev main_call5_v0 : Ref sig .tc := ⟨.hbm, 161, rfl⟩
abbrev main_call5_v1 : Ref sig .tc := ⟨.hbm, 162, rfl⟩
abbrev main_call5_c_0 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_call5_v5 : Ref sig .tc := ⟨.hbm, 167, rfl⟩
abbrev main_call5_c_1 : Ref sig .tc := ⟨.hbm, 168, rfl⟩
abbrev main_call5_c_2 : Ref sig .tc := ⟨.hbm, 169, rfl⟩
abbrev main_call5_v6 : Ref sig .tc := ⟨.hbm, 170, rfl⟩
abbrev main_call5_v7 : Ref sig .tc := ⟨.hbm, 171, rfl⟩
abbrev main_call5_v8 : Ref sig .tc := ⟨.hbm, 172, rfl⟩
abbrev main_call5_v9 : Ref sig .tc := ⟨.hbm, 173, rfl⟩
abbrev main_call5_v10 : Ref sig .tc := ⟨.hbm, 174, rfl⟩
abbrev main_call5_v11 : Ref sig .tc := ⟨.hbm, 175, rfl⟩
abbrev main_call5_c_3 : Ref sig .tc := ⟨.hbm, 176, rfl⟩
abbrev main_call5_v12 : Ref sig .tc := ⟨.hbm, 177, rfl⟩
abbrev main_call5_v13 : Ref sig .tc := ⟨.hbm, 178, rfl⟩
abbrev main_call5_v14 : Ref sig .tc := ⟨.hbm, 179, rfl⟩
abbrev main_call5_cst : Ref sig .tc := ⟨.hbm, 180, rfl⟩
abbrev main_call5_v15 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_cst_19 : Ref sig .tc := ⟨.hbm, 185, rfl⟩
abbrev main_v85 : Ref sig .tc := ⟨.hbm, 186, rfl⟩
abbrev main_cst_20 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_cst_21 : Ref sig .tc := ⟨.hbm, 191, rfl⟩
abbrev main_v89 : Ref sig .tc := ⟨.hbm, 192, rfl⟩
abbrev main_cst_22 : Ref sig .tc := ⟨.hbm, 193, rfl⟩
abbrev main_v90 : Ref sig .tc := ⟨.hbm, 194, rfl⟩
abbrev main_cst_23 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_cst_24 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_cst_25 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_cst_26 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_call6_v0 : Ref sig .tc := ⟨.hbm, 221, rfl⟩
abbrev main_call6_cst : Ref sig .tc := ⟨.hbm, 222, rfl⟩
abbrev main_call6_c : Ref sig .tc := ⟨.hbm, 223, rfl⟩
abbrev main_call6_v1_0 : Ref sig .tc := ⟨.hbm, 224, rfl⟩
abbrev main_v113 : Ref sig .tc := ⟨.hbm, 225, rfl⟩
abbrev main_call7_c : Ref sig .tc := ⟨.hbm, 226, rfl⟩
abbrev main_call7_v0 : Ref sig .tc := ⟨.hbm, 227, rfl⟩
abbrev main_call7_v1 : Ref sig .tc := ⟨.hbm, 228, rfl⟩
abbrev main_call7_c_0 : Ref sig .tc := ⟨.hbm, 229, rfl⟩
abbrev main_call7_v2 : Ref sig .tc := ⟨.hbm, 230, rfl⟩
abbrev main_call7_v3 : Ref sig .tc := ⟨.hbm, 231, rfl⟩
abbrev main_call7_v4 : Ref sig .tc := ⟨.hbm, 232, rfl⟩
abbrev main_call7_v5 : Ref sig .tc := ⟨.hbm, 233, rfl⟩
abbrev main_call7_c_1 : Ref sig .tc := ⟨.hbm, 234, rfl⟩
abbrev main_call7_c_2 : Ref sig .tc := ⟨.hbm, 235, rfl⟩
abbrev main_call7_v6 : Ref sig .tc := ⟨.hbm, 236, rfl⟩
abbrev main_call7_v7 : Ref sig .tc := ⟨.hbm, 237, rfl⟩
abbrev main_call7_v8 : Ref sig .tc := ⟨.hbm, 238, rfl⟩
abbrev main_call7_v9 : Ref sig .tc := ⟨.hbm, 239, rfl⟩
abbrev main_call7_v10 : Ref sig .tc := ⟨.hbm, 240, rfl⟩
abbrev main_call7_v11 : Ref sig .tc := ⟨.hbm, 241, rfl⟩
abbrev main_call7_c_3 : Ref sig .tc := ⟨.hbm, 242, rfl⟩
abbrev main_call7_v12 : Ref sig .tc := ⟨.hbm, 243, rfl⟩
abbrev main_call7_v13 : Ref sig .tc := ⟨.hbm, 244, rfl⟩
abbrev main_call7_v14 : Ref sig .tc := ⟨.hbm, 245, rfl⟩
abbrev main_call7_cst : Ref sig .tc := ⟨.hbm, 246, rfl⟩
abbrev main_call7_v15 : Ref sig .tc := ⟨.hbm, 247, rfl⟩
abbrev main_v114 : Ref sig .tc := ⟨.hbm, 248, rfl⟩
abbrev main_v115 : Ref sig .tc := ⟨.hbm, 249, rfl⟩
abbrev main_v116 : Ref sig .tc := ⟨.hbm, 250, rfl⟩
abbrev main_cst_27 : Ref sig .tc := ⟨.hbm, 251, rfl⟩
abbrev main_v117 : Ref sig .tc := ⟨.hbm, 252, rfl⟩
abbrev main_cst_28 : Ref sig .tc := ⟨.hbm, 253, rfl⟩
abbrev main_v118 : Ref sig .tc := ⟨.hbm, 254, rfl⟩
abbrev main_v119 : Ref sig .tc := ⟨.hbm, 255, rfl⟩
abbrev main_v120 : Ref sig .tc := ⟨.hbm, 256, rfl⟩
abbrev main_cst_29 : Ref sig .tc := ⟨.hbm, 257, rfl⟩
abbrev main_v121 : Ref sig .tc := ⟨.hbm, 258, rfl⟩
abbrev main_cst_30 : Ref sig .tc := ⟨.hbm, 259, rfl⟩
abbrev main_v122 : Ref sig .tc := ⟨.hbm, 260, rfl⟩
abbrev main_cst_31 : Ref sig .tc := ⟨.hbm, 261, rfl⟩
abbrev main_v123 : Ref sig .tc := ⟨.hbm, 262, rfl⟩
abbrev main_v124 : Ref sig .tc := ⟨.hbm, 263, rfl⟩
abbrev main_v125 : Ref sig .tc := ⟨.hbm, 264, rfl⟩
abbrev main_v126 : Ref sig .tc := ⟨.hbm, 265, rfl⟩
abbrev main_v127 : Ref sig .tc := ⟨.hbm, 266, rfl⟩
abbrev main_v128 : Ref sig .tc := ⟨.hbm, 267, rfl⟩
abbrev main_v129 : Ref sig .tc := ⟨.hbm, 268, rfl⟩
abbrev main_v130 : Ref sig .tc := ⟨.hbm, 269, rfl⟩
abbrev main_v131 : Ref sig .tc := ⟨.hbm, 270, rfl⟩
abbrev main_v132 : Ref sig .tc := ⟨.hbm, 271, rfl⟩
abbrev main_v133 : Ref sig .tc := ⟨.hbm, 272, rfl⟩
abbrev main_cst_32 : Ref sig .tc := ⟨.hbm, 273, rfl⟩
abbrev main_v134 : Ref sig .tc := ⟨.hbm, 274, rfl⟩
abbrev main_cst_33 : Ref sig .tc := ⟨.hbm, 275, rfl⟩
abbrev main_v135 : Ref sig .tc := ⟨.hbm, 276, rfl⟩
abbrev main_v136 : Ref sig .tc := ⟨.hbm, 277, rfl⟩
abbrev main_v137 : Ref sig .tc := ⟨.hbm, 278, rfl⟩
abbrev main_v138 : Ref sig .tc := ⟨.hbm, 279, rfl⟩
abbrev main_v139 : Ref sig .tc := ⟨.hbm, 280, rfl⟩
abbrev main_v140 : Ref sig .tc := ⟨.hbm, 281, rfl⟩
abbrev main_v141 : Ref sig .tc := ⟨.hbm, 282, rfl⟩
abbrev main_v142 : Ref sig .tc := ⟨.hbm, 283, rfl⟩
abbrev main_v143 : Ref sig .tc := ⟨.hbm, 284, rfl⟩
abbrev main_v144 : Ref sig .tc := ⟨.hbm, 285, rfl⟩
abbrev main_v145 : Ref sig .tc := ⟨.hbm, 286, rfl⟩

abbrev nD : Nat := 1
abbrev τ : Topo := Topo.v7x

variable {F : FTy → Type} [FloatOps F]
-- ==== Proof.RefOps.lean ====
/-
  The operations of the reference program. Its @main is four quantization levels between a short opening and a
  closing that stacks the results. The levels use consecutive blocks of 66 buffers, so one list of operations,
  parametrized by the level, describes them all.
-/
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

noncomputable section

namespace Cert.Proof.Ref

open Cert.ReferenceIdeal Cert.ReferenceIdeal.Gen Idealize.ShloMosaic Idealize.ShloMosaic.TcCoe Idealize.SL.Sem
open Idealize.ShloMosaic.StableHlo

variable {F : FTy → Type} [FloatOps F]

/-! ## Reading a typed buffer -/

section Cells

variable {T Ta Tb Tc Td : BufTy}

/-- The contents of a typed buffer, at the type of its value. -/
def rd (t : TRef sig T) (V : Valuation τ sig (Elt F)) : T.Contents (Elt F) := t.ofBuf (V (Proc.devRef .tc t.ref))

/-- The operations of the program over typed buffers, by number of operands. -/
def op0 (y : TRef sig T) (v : T.Contents (Elt F)) : HloOp τ sig (Elt F) := TRef.nullary y v
@[inherit_doc op0]
def op1 (a : TRef sig Ta) (y : TRef sig T) (f : Ta.Contents (Elt F) → T.Contents (Elt F)) : HloOp τ sig (Elt F) :=
  TRef.unary a y f
@[inherit_doc op0]
def op2 (a : TRef sig Ta) (b : TRef sig Tb) (y : TRef sig T)
    (f : Ta.Contents (Elt F) → Tb.Contents (Elt F) → T.Contents (Elt F)) : HloOp τ sig (Elt F) :=
  TRef.binary a b y f
@[inherit_doc op0]
def op3 (a : TRef sig Ta) (b : TRef sig Tb) (c : TRef sig Tc) (y : TRef sig T)
    (f : Ta.Contents (Elt F) → Tb.Contents (Elt F) → Tc.Contents (Elt F) → T.Contents (Elt F)) :
    HloOp τ sig (Elt F) :=
  TRef.ternary a b c y f
@[inherit_doc op0]
def op4 (a : TRef sig Ta) (b : TRef sig Tb) (c : TRef sig Tc) (d : TRef sig Td) (y : TRef sig T)
    (f : Ta.Contents (Elt F) → Tb.Contents (Elt F) → Tc.Contents (Elt F) → Td.Contents (Elt F) → T.Contents (Elt F)) :
    HloOp τ sig (Elt F) :=
  TRef.quaternary a b c d y f
/-- A change of shape. -/
def opShape (a : TRef sig Ta) (y : TRef sig T) (he : Ta.elt = T.elt) (hn : Ta.shape.ShapeCasts T.shape) :
    HloOp τ sig (Elt F) :=
  TRef.reshape a y he hn
/-- A concatenation of four. -/
def opCat (a b c d : TRef sig Ta) (y : TRef sig T)
    (f : Ta.Contents (Elt F) → Ta.Contents (Elt F) → Ta.Contents (Elt F) → Ta.Contents (Elt F) → T.Contents (Elt F)) :
    HloOp τ sig (Elt F) :=
  StableHlo.nary ![a.ref, b.ref, c.ref, d.ref] y.ref
    (fun u => y.toBuf (f (a.ofBuf (u 0)) (b.ofBuf (u 1)) (c.ofBuf (u 2)) (d.ofBuf (u 3))))
    (by intro k; fin_cases k <;> [exact a.dev; exact b.dev; exact c.dev; exact d.dev]) y.dev

variable (V : Valuation τ sig (Elt F))

theorem ofBuf_toBuf (t : TRef sig T) (v : T.Contents (Elt F)) : t.ofBuf (t.toBuf v) = v := by
  simp only [TRef.ofBuf, TRef.toBuf, cast_cast, cast_eq]

theorem rd_op0 (y : TRef sig T) (v : T.Contents (Elt F)) : rd y ((op0 y v).result V) = v := by
  unfold rd op0; rw [nullary_result, ofBuf_toBuf]

theorem rd_op1 (a : TRef sig Ta) (y : TRef sig T) (f : Ta.Contents (Elt F) → T.Contents (Elt F)) :
    rd y ((op1 a y f).result V) = f (rd a V) := by
  unfold rd op1; rw [unary_result, ofBuf_toBuf]

theorem rd_op2 (a : TRef sig Ta) (b : TRef sig Tb) (y : TRef sig T)
    (f : Ta.Contents (Elt F) → Tb.Contents (Elt F) → T.Contents (Elt F)) :
    rd y ((op2 a b y f).result V) = f (rd a V) (rd b V) := by
  unfold rd op2; rw [binary_result, ofBuf_toBuf]

theorem rd_op3 (a : TRef sig Ta) (b : TRef sig Tb) (c : TRef sig Tc) (y : TRef sig T)
    (f : Ta.Contents (Elt F) → Tb.Contents (Elt F) → Tc.Contents (Elt F) → T.Contents (Elt F)) :
    rd y ((op3 a b c y f).result V) = f (rd a V) (rd b V) (rd c V) := by
  unfold rd op3; rw [ternary_result, ofBuf_toBuf]

theorem rd_op4 (a : TRef sig Ta) (b : TRef sig Tb) (c : TRef sig Tc) (d : TRef sig Td) (y : TRef sig T)
    (f : Ta.Contents (Elt F) → Tb.Contents (Elt F) → Tc.Contents (Elt F) → Td.Contents (Elt F) → T.Contents (Elt F)) :
    rd y ((op4 a b c d y f).result V) = f (rd a V) (rd b V) (rd c V) (rd d V) := by
  unfold rd op4; rw [quaternary_result, ofBuf_toBuf]

theorem rd_opCat (a b c d : TRef sig Ta) (y : TRef sig T)
    (f : Ta.Contents (Elt F) → Ta.Contents (Elt F) → Ta.Contents (Elt F) → Ta.Contents (Elt F) → T.Contents (Elt F)) :
    rd y ((opCat a b c d y f).result V) = f (rd a V) (rd b V) (rd c V) (rd d V) := by
  unfold rd opCat; rw [nary_result, ofBuf_toBuf]; rfl

/-- A reshape moved along the equations of its two types. -/
theorem cast_shapeCast {A B : BufTy} {S S' : Shape} {e : EltTy} (hA : A = ⟨S, e⟩) (hB : B = ⟨S', e⟩)
    (w : A.Contents (Elt F)) (he : A.elt = B.elt) (h : A.shape.ShapeCasts B.shape) (hn : S.ShapeCasts S') :
    cast (congrArg (fun U : BufTy => U.Contents (Elt F)) hB) (fun i => he ▸ shapeCast B.shape w h i)
      = shapeCast S' (cast (congrArg (fun U : BufTy => U.Contents (Elt F)) hA) w) hn := by
  subst hA hB; rfl

/-- A reshape at the value's type: the row-major entries under the new shape. -/
theorem rd_opShape {S S' : Shape} {e : EltTy} (a : TRef sig ⟨S, e⟩) (y : TRef sig ⟨S', e⟩) (hn : S.ShapeCasts S') :
    rd y ((opShape a y rfl hn).result V) = shapeCast S' (rd a V) hn := by
  unfold rd opShape
  rw [reshape_result]
  exact cast_shapeCast a.ty_eq y.ty_eq _ _ _ hn

/-- An operation leaves alone every buffer it does not write. -/
theorem rd_other (op : HloOp τ sig (Elt F)) (t : TRef sig T) (y : Ref sig .tc)
    (hw : op.writes = {Proc.devRef (τ := τ) .tc y}) (h : t.ref ≠ y) : rd t (op.result V) = rd t V := by
  unfold rd; rw [result_of_writes_ne op V y t.ref hw h]

theorem rd_op0_ne (t : TRef sig Ta) (y : TRef sig T) (v : T.Contents (Elt F)) (h : t.ref ≠ y.ref) :
    rd t ((op0 y v).result V) = rd t V := rd_other V _ t y.ref rfl h
theorem rd_op1_ne {Ts : BufTy} (t : TRef sig Ts) (a : TRef sig Ta) (y : TRef sig T)
    (f : Ta.Contents (Elt F) → T.Contents (Elt F)) (h : t.ref ≠ y.ref) :
    rd t ((op1 a y f).result V) = rd t V := rd_other V _ t y.ref rfl h
theorem rd_op2_ne {Ts : BufTy} (t : TRef sig Ts) (a : TRef sig Ta) (b : TRef sig Tb) (y : TRef sig T)
    (f : Ta.Contents (Elt F) → Tb.Contents (Elt F) → T.Contents (Elt F)) (h : t.ref ≠ y.ref) :
    rd t ((op2 a b y f).result V) = rd t V := rd_other V _ t y.ref rfl h
theorem rd_op3_ne {Ts : BufTy} (t : TRef sig Ts) (a : TRef sig Ta) (b : TRef sig Tb) (c : TRef sig Tc) (y : TRef sig T)
    (f : Ta.Contents (Elt F) → Tb.Contents (Elt F) → Tc.Contents (Elt F) → T.Contents (Elt F)) (h : t.ref ≠ y.ref) :
    rd t ((op3 a b c y f).result V) = rd t V := rd_other V _ t y.ref rfl h
theorem rd_op4_ne {Ts : BufTy} (t : TRef sig Ts) (a : TRef sig Ta) (b : TRef sig Tb) (c : TRef sig Tc)
    (d : TRef sig Td) (y : TRef sig T)
    (f : Ta.Contents (Elt F) → Tb.Contents (Elt F) → Tc.Contents (Elt F) → Td.Contents (Elt F) → T.Contents (Elt F))
    (h : t.ref ≠ y.ref) :
    rd t ((op4 a b c d y f).result V) = rd t V := rd_other V _ t y.ref rfl h
theorem rd_opShape_ne {Ts : BufTy} (t : TRef sig Ts) (a : TRef sig Ta) (y : TRef sig T) (he hn) (h : t.ref ≠ y.ref) :
    rd t ((opShape a y he hn).result V) = rd t V := rd_other V _ t y.ref rfl h
theorem rd_opCat_ne {Ts : BufTy} (t : TRef sig Ts) (a b c d : TRef sig Ta) (y : TRef sig T)
    (f : Ta.Contents (Elt F) → Ta.Contents (Elt F) → Ta.Contents (Elt F) → Ta.Contents (Elt F) → T.Contents (Elt F))
    (h : t.ref ≠ y.ref) :
    rd t ((opCat a b c d y f).result V) = rd t V := rd_other V _ t y.ref rfl h

theorem after_append (l₁ l₂ : List (HloOp τ sig (Elt F))) : after (l₁ ++ l₂) V = after l₂ (after l₁ V) := by
  induction l₁ generalizing V with
  | nil => rfl
  | cons o l ih => exact ih _

end Cells

/-! ## The buffers of a level -/

/-- The types of a level's buffers, in order. -/
abbrev levelTy : Fin 66 → BufTy := fun k => match k.val with
  | 0 => ⟨S1x1024x32, .f32⟩
  | 1 | 6 => ⟨S1024x32, .f32⟩
  | 3 | 7 | 13 | 20 | 44 | 49 | 50 | 51 | 52 | 55 | 56 | 57 | 58 | 59 | 60 | 61 => ⟨S_, .f32⟩
  | 4 | 22 => ⟨S16384, .f32⟩
  | 5 => ⟨S16384x1, .f32⟩
  | 8 => ⟨S1024, .f32⟩
  | 9 => ⟨S1x1024, .f32⟩
  | 10 | 11 | 12 | 17 | 18 => ⟨S16384x1024, .f32⟩
  | 16 => ⟨S32x1024, .f32⟩
  | 19 => ⟨S16384x1024, .i32⟩
  | 21 | 24 | 27 | 33 => ⟨S_, .i32⟩
  | 23 | 25 | 28 | 29 | 30 => ⟨S16384, .i32⟩
  | 26 | 41 => ⟨S16384, .i1⟩
  | 31 | 34 | 37 => ⟨S16384x1, .i32⟩
  | 32 => ⟨S1, .i32⟩
  | 35 | 38 | 39 => ⟨S16384x1, .i1⟩
  | 36 => ⟨S1x1, .i32⟩
  | 40 => ⟨S_, .i1⟩
  | 43 => ⟨S16384x32, .i1⟩
  | _ => ⟨S16384x32, .f32⟩

/-- The number of a level's buffer `k` among the program's buffers. -/
abbrev bufNo (l : Fin 4) (k : Fin 66) : Fin 287 := ⟨4 + 66 * l.val + k.val, by omega⟩

abbrev buf (l : Fin 4) (k : Fin 66) : Ref sig .tc := ⟨.hbm, bufNo l k, rfl⟩

theorem buf_ty : ∀ (l : Fin 4) (k : Fin 66), (buf l k).ty = levelTy k := by decide +kernel

theorem buf_inj {l : Fin 4} {j k : Fin 66} : buf l j = buf l k ↔ j = k := by
  constructor
  · intro h
    have h1 : bufNo l j = bufNo l k := by injection h
    have h2 := congrArg Fin.val h1
    simp only [bufNo] at h2
    exact Fin.ext (by omega)
  · rintro rfl; rfl

theorem hbm_ne : Space.hbm ≠ Space.host := by decide

/-- Buffer `k` of level `l`, at its type. -/
abbrev cell (l : Fin 4) (k : Fin 66) (S : Shape) (e : EltTy) (h : levelTy k = ⟨S, e⟩ := by rfl) : TRef sig ⟨S, e⟩ :=
  ⟨buf l k, (buf_ty l k).trans h, hbm_ne, rfl⟩

/-- The buffer that holds the residual a level starts from: the argument, or what the level before left. -/
abbrev resNo (l : Fin 4) : Fin 287 := if l.val = 0 then 0 else ⟨66 * l.val + 2, by omega⟩
/-- The buffer that holds the quantized sum a level starts from. -/
abbrev sumNo (l : Fin 4) : Fin 287 := ⟨66 * l.val + 3, by omega⟩

abbrev resBuf (l : Fin 4) : Ref sig .tc := ⟨.hbm, resNo l, rfl⟩
abbrev sumBuf (l : Fin 4) : Ref sig .tc := ⟨.hbm, sumNo l, rfl⟩

abbrev resIn (l : Fin 4) : TRef sig ⟨S16384x32, .f32⟩ :=
  ⟨resBuf l, (by decide +kernel : ∀ l : Fin 4, (resBuf l).ty = ⟨S16384x32, .f32⟩) l, hbm_ne, rfl⟩
abbrev sumIn (l : Fin 4) : TRef sig ⟨S16384x32, .f32⟩ :=
  ⟨sumBuf l, (by decide +kernel : ∀ l : Fin 4, (sumBuf l).ty = ⟨S16384x32, .f32⟩) l, hbm_ne, rfl⟩
abbrev argX : TRef sig ⟨S16384x32, .f32⟩ := .of main_arg0
abbrev argC : TRef sig ⟨S4x1024x32, .f32⟩ := .of main_arg1

/-- A buffer numbered below a level's is none of the level's. -/
theorem ne_buf {l : Fin 4} {k : Fin 66} {n : Fin 287} (h : n.val < 4 + 66 * l.val) :
    (⟨.hbm, n, rfl⟩ : Ref sig .tc) ≠ buf l k := by
  intro e
  have h1 : n = bufNo l k := by injection e
  have h2 := congrArg Fin.val h1
  simp only [bufNo] at h2
  omega

theorem resBuf_ne (l : Fin 4) (k : Fin 66) : resBuf l ≠ buf l k := by
  refine ne_buf ?_
  unfold resNo; split
  · simp
  · simp only []; omega
theorem sumBuf_ne (l : Fin 4) (k : Fin 66) : sumBuf l ≠ buf l k := ne_buf (by simp only []; omega)
theorem argC_ne (l : Fin 4) (k : Fin 66) : main_arg1 ≠ buf l k := ne_buf (by show 1 < _; omega)

/-! ## What a level computes -/

/-- A level's codebook is one plane of the four. -/
theorem slice_ok : ∀ l : Fin 4, S4x1024x32.Slices ![l.val, 0, 0] S1x1024x32 := by
  intro l
  fin_cases l
  exacts [slices_S4x1024x32_S1x1024x32_0_0_0, slices_S4x1024x32_S1x1024x32_1_0_0,
    slices_S4x1024x32_S1x1024x32_2_0_0, slices_S4x1024x32_S1x1024x32_3_0_0]

variable (F) in
abbrev Mat := (⟨S16384x32, .f32⟩ : BufTy).Contents (Elt F)

/-- The level's codebook. -/
def book (l : Fin 4) (c : (⟨S4x1024x32, .f32⟩ : BufTy).Contents (Elt F)) : (⟨S1024x32, .f32⟩ : BufTy).Contents (Elt F) :=
  shapeCast S1024x32 (extractStridedSlice S1x1024x32 ![l.val, 0, 0] c (slice_ok l)) shapeCasts_S1x1024x32_S1024x32

/-- The squared distances of every row of the residual to every code. -/
def dists (e : (⟨S1024x32, .f32⟩ : BufTy).Contents (Elt F)) (r : Mat F) : (⟨S16384x1024, .f32⟩ : BufTy).Contents (Elt F) :=
  subf
    (addf
      (broadcastInDim S16384x1024 ![0, 1] bcast_S16384x1_S16384x1024_0_1
        (broadcastInDim S16384x1 ![0] bcast_S16384_S16384x1_0
          (Host.reduceAdd (mulf r r) (constant S_ .f32 0x00000000#32) reducesTo_S16384x32_S16384_d1 h_S_)))
      (broadcastInDim S16384x1024 ![0, 1] bcast_S1x1024_S16384x1024_0_1
        (broadcastInDim S1x1024 ![1] bcast_S1024_S1x1024_1
          (Host.reduceAdd (mulf e e) (constant S_ .f32 0x00000000#32) reducesTo_S1024x32_S1024_d1 h_S_))))
    (Host.dotGeneral dot_S16384x32_S32x1024_S16384x1024_1_0_0_1_n_n none
      (mulf (broadcastInDim S16384x32 ![] bcast_S_S16384x32 (constant S_ .f32 0x40000000#32)) r)
      (transpose S32x1024 [1, 0] e transposes_S1024x32_S32x1024_1_0))

/-- The index of the nearest code of every row. -/
def nearest (d : (⟨S16384x1024, .f32⟩ : BufTy).Contents (Elt F)) : (⟨S16384, .i32⟩ : BufTy).Contents (Elt F) := fun j =>
  (Host.argReduce reducer_argmin_f32_i32 d (iotaInDim S16384x1024 32 1) (constant S_ .f32 0x7F800000#32)
    (constantI S_ 32 0#32) reducesTo_S16384x1024_S16384_d1 h_S_ j).2

/-- The indices as a lookup uses them: a negative one counts from the end. -/
def wrap (i : (⟨S16384, .i32⟩ : BufTy).Contents (Elt F)) : (⟨S16384x1, .i32⟩ : BufTy).Contents (Elt F) :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Whether an index is within the table. -/
def inside (w : (⟨S16384x1, .i32⟩ : BufTy).Contents (Elt F)) : (⟨S16384, .i1⟩ : BufTy).Contents (Elt F) :=
  Host.reduce IntOp.andi
    (andi (cmpi .sge w (broadcastInDim S16384x1 ![] bcast_S_S16384x1 (constantI S_ 32 0#32)))
      (cmpi .sle w (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The codes looked up at the indices. -/
def lookup (e : (⟨S1024x32, .f32⟩ : BufTy).Contents (Elt F)) (i : (⟨S16384, .i32⟩ : BufTy).Contents (Elt F)) : Mat F :=
  select (broadcastInDim S16384x32 ![0] bcast_S16384_S16384x32_0 (inside (F := F) (wrap (F := F) i)))
    (Host.gather gather_S1024x32_S16384x1_S16384x32_1_0_n_n_0_1_132 e (wrap (F := F) i))
    (broadcastInDim S16384x32 ![] bcast_S_S16384x32 (constant S_ .f32 0x7FC00000#32))

/-- The mean squared difference of two arrays of rows. -/
def meanSq (r q : Mat F) : (⟨S_, .f32⟩ : BufTy).Contents (Elt F) :=
  Host.divf (Host.reduceAdd (mulf (subf r q) (subf r q)) (constant S_ .f32 0x00000000#32) reducesTo_S16384x32_S_d0_1 h_S_)
    (constant S_ .f32 0x49000000#32)

/-- The level's loss. -/
def lossOf (r q : Mat F) : (⟨S_, .f32⟩ : BufTy).Contents (Elt F) :=
  addf (meanSq r q) (mulf (constant S_ .f32 0x3E800000#32) (meanSq r q))

/-- What the level subtracts from the residual. -/
def stepOf (r q : Mat F) : Mat F := addf r (subf q r)

/-! ## The operations of a level -/

/-- The distances. -/
def distOps (l : Fin 4) : List (HloOp τ sig (Elt F)) :=
  [ op1 argC (cell l 0 S1x1024x32 .f32) (extractStridedSlice S1x1024x32 ![l.val, 0, 0] · (slice_ok l)),
    opShape (cell l 0 S1x1024x32 .f32) (cell l 1 S1024x32 .f32) rfl shapeCasts_S1x1024x32_S1024x32,
    op2 (resIn l) (resIn l) (cell l 2 S16384x32 .f32) mulf,
    op0 (cell l 3 S_ .f32) (constant S_ .f32 0x00000000#32),
    op2 (cell l 2 S16384x32 .f32) (cell l 3 S_ .f32) (cell l 4 S16384 .f32) (fun x v => Host.reduceAdd x v reducesTo_S16384x32_S16384_d1 h_S_),
    op1 (cell l 4 S16384 .f32) (cell l 5 S16384x1 .f32) (broadcastInDim S16384x1 ![0] bcast_S16384_S16384x1_0),
    op2 (cell l 1 S1024x32 .f32) (cell l 1 S1024x32 .f32) (cell l 6 S1024x32 .f32) mulf,
    op0 (cell l 7 S_ .f32) (constant S_ .f32 0x00000000#32),
    op2 (cell l 6 S1024x32 .f32) (cell l 7 S_ .f32) (cell l 8 S1024 .f32) (fun x v => Host.reduceAdd x v reducesTo_S1024x32_S1024_d1 h_S_),
    op1 (cell l 8 S1024 .f32) (cell l 9 S1x1024 .f32) (broadcastInDim S1x1024 ![1] bcast_S1024_S1x1024_1),
    op1 (cell l 5 S16384x1 .f32) (cell l 10 S16384x1024 .f32) (broadcastInDim S16384x1024 ![0, 1] bcast_S16384x1_S16384x1024_0_1),
    op1 (cell l 9 S1x1024 .f32) (cell l 11 S16384x1024 .f32) (broadcastInDim S16384x1024 ![0, 1] bcast_S1x1024_S16384x1024_0_1),
    op2 (cell l 10 S16384x1024 .f32) (cell l 11 S16384x1024 .f32) (cell l 12 S16384x1024 .f32) addf,
    op0 (cell l 13 S_ .f32) (constant S_ .f32 0x40000000#32),
    op1 (cell l 13 S_ .f32) (cell l 14 S16384x32 .f32) (broadcastInDim S16384x32 ![] bcast_S_S16384x32),
    op2 (cell l 14 S16384x32 .f32) (resIn l) (cell l 15 S16384x32 .f32) mulf,
    op1 (cell l 1 S1024x32 .f32) (cell l 16 S32x1024 .f32) (transpose S32x1024 [1, 0] · transposes_S1024x32_S32x1024_1_0),
    op2 (cell l 15 S16384x32 .f32) (cell l 16 S32x1024 .f32) (cell l 17 S16384x1024 .f32)
      (fun x y => Host.dotGeneral dot_S16384x32_S32x1024_S16384x1024_1_0_0_1_n_n none x y),
    op2 (cell l 12 S16384x1024 .f32) (cell l 17 S16384x1024 .f32) (cell l 18 S16384x1024 .f32) subf ]

/-- The index of the nearest code. -/
def minOps (l : Fin 4) : List (HloOp τ sig (Elt F)) :=
  [ op0 (cell l 19 S16384x1024 .i32) (iotaInDim S16384x1024 32 1),
    op0 (cell l 20 S_ .f32) (constant S_ .f32 0x7F800000#32),
    op0 (cell l 21 S_ .i32) (constantI S_ 32 0#32),
    op4 (cell l 18 S16384x1024 .f32) (cell l 19 S16384x1024 .i32) (cell l 20 S_ .f32) (cell l 21 S_ .i32) (cell l 22 S16384 .f32) (fun x y u v j =>
      (Host.argReduce reducer_argmin_f32_i32 x y u v reducesTo_S16384x1024_S16384_d1 h_S_ j).1),
    op4 (cell l 18 S16384x1024 .f32) (cell l 19 S16384x1024 .i32) (cell l 20 S_ .f32) (cell l 21 S_ .i32) (cell l 23 S16384 .i32) (fun x y u v j =>
      (Host.argReduce reducer_argmin_f32_i32 x y u v reducesTo_S16384x1024_S16384_d1 h_S_ j).2) ]

/-- The lookup. -/
def takeOps (l : Fin 4) : List (HloOp τ sig (Elt F)) :=
  [ op0 (cell l 24 S_ .i32) (constantI S_ 32 0#32),
    op1 (cell l 24 S_ .i32) (cell l 25 S16384 .i32) (broadcastInDim S16384 ![] bcast_S_S16384),
    op2 (cell l 23 S16384 .i32) (cell l 25 S16384 .i32) (cell l 26 S16384 .i1) (cmpi .slt),
    op0 (cell l 27 S_ .i32) (constantI S_ 32 1024#32),
    op1 (cell l 27 S_ .i32) (cell l 28 S16384 .i32) (broadcastInDim S16384 ![] bcast_S_S16384),
    op2 (cell l 23 S16384 .i32) (cell l 28 S16384 .i32) (cell l 29 S16384 .i32) addi,
    op3 (cell l 26 S16384 .i1) (cell l 29 S16384 .i32) (cell l 23 S16384 .i32) (cell l 30 S16384 .i32) select,
    op1 (cell l 30 S16384 .i32) (cell l 31 S16384x1 .i32) (broadcastInDim S16384x1 ![0] bcast_S16384_S16384x1_0),
    op0 (cell l 32 S1 .i32) (constantI S1 32 1023#32),
    op0 (cell l 33 S_ .i32) (constantI S_ 32 0#32),
    op1 (cell l 33 S_ .i32) (cell l 34 S16384x1 .i32) (broadcastInDim S16384x1 ![] bcast_S_S16384x1),
    op2 (cell l 31 S16384x1 .i32) (cell l 34 S16384x1 .i32) (cell l 35 S16384x1 .i1) (cmpi .sge),
    op1 (cell l 32 S1 .i32) (cell l 36 S1x1 .i32) (broadcastInDim S1x1 ![1] bcast_S1_S1x1_1),
    op1 (cell l 36 S1x1 .i32) (cell l 37 S16384x1 .i32) (broadcastInDim S16384x1 ![0, 1] bcast_S1x1_S16384x1_0_1),
    op2 (cell l 31 S16384x1 .i32) (cell l 37 S16384x1 .i32) (cell l 38 S16384x1 .i1) (cmpi .sle),
    op2 (cell l 35 S16384x1 .i1) (cell l 38 S16384x1 .i1) (cell l 39 S16384x1 .i1) andi,
    op0 (cell l 40 S_ .i1) (constantI S_ 1 1#1),
    op2 (cell l 39 S16384x1 .i1) (cell l 40 S_ .i1) (cell l 41 S16384 .i1) (fun x v => Host.reduce IntOp.andi x v reducesTo_S16384x1_S16384_d1 h_S_),
    op2 (cell l 1 S1024x32 .f32) (cell l 31 S16384x1 .i32) (cell l 42 S16384x32 .f32)
      (fun x i => Host.gather gather_S1024x32_S16384x1_S16384x32_1_0_n_n_0_1_132 x i),
    op1 (cell l 41 S16384 .i1) (cell l 43 S16384x32 .i1) (broadcastInDim S16384x32 ![0] bcast_S16384_S16384x32_0),
    op0 (cell l 44 S_ .f32) (constant S_ .f32 0x7FC00000#32),
    op1 (cell l 44 S_ .f32) (cell l 45 S16384x32 .f32) (broadcastInDim S16384x32 ![] bcast_S_S16384x32),
    op3 (cell l 43 S16384x32 .i1) (cell l 42 S16384x32 .f32) (cell l 45 S16384x32 .f32) (cell l 46 S16384x32 .f32) select ]

/-- The loss, the next residual and the quantized sum so far. -/
def stepOps (l : Fin 4) : List (HloOp τ sig (Elt F)) :=
  [ op2 (resIn l) (cell l 46 S16384x32 .f32) (cell l 47 S16384x32 .f32) subf,
    op2 (cell l 47 S16384x32 .f32) (cell l 47 S16384x32 .f32) (cell l 48 S16384x32 .f32) mulf,
    op0 (cell l 49 S_ .f32) (constant S_ .f32 0x00000000#32),
    op2 (cell l 48 S16384x32 .f32) (cell l 49 S_ .f32) (cell l 50 S_ .f32) (fun x v => Host.reduceAdd x v reducesTo_S16384x32_S_d0_1 h_S_),
    op0 (cell l 51 S_ .f32) (constant S_ .f32 0x49000000#32),
    op2 (cell l 50 S_ .f32) (cell l 51 S_ .f32) (cell l 52 S_ .f32) Host.divf,
    op2 (resIn l) (cell l 46 S16384x32 .f32) (cell l 53 S16384x32 .f32) subf,
    op2 (cell l 53 S16384x32 .f32) (cell l 53 S16384x32 .f32) (cell l 54 S16384x32 .f32) mulf,
    op0 (cell l 55 S_ .f32) (constant S_ .f32 0x00000000#32),
    op2 (cell l 54 S16384x32 .f32) (cell l 55 S_ .f32) (cell l 56 S_ .f32) (fun x v => Host.reduceAdd x v reducesTo_S16384x32_S_d0_1 h_S_),
    op0 (cell l 57 S_ .f32) (constant S_ .f32 0x49000000#32),
    op2 (cell l 56 S_ .f32) (cell l 57 S_ .f32) (cell l 58 S_ .f32) Host.divf,
    op0 (cell l 59 S_ .f32) (constant S_ .f32 0x3E800000#32),
    op2 (cell l 59 S_ .f32) (cell l 58 S_ .f32) (cell l 60 S_ .f32) mulf,
    op2 (cell l 52 S_ .f32) (cell l 60 S_ .f32) (cell l 61 S_ .f32) addf,
    op2 (cell l 46 S16384x32 .f32) (resIn l) (cell l 62 S16384x32 .f32) subf,
    op2 (resIn l) (cell l 62 S16384x32 .f32) (cell l 63 S16384x32 .f32) addf,
    op2 (resIn l) (cell l 63 S16384x32 .f32) (cell l 64 S16384x32 .f32) subf,
    op2 (sumIn l) (cell l 63 S16384x32 .f32) (cell l 65 S16384x32 .f32) addf ]

/-- A level. -/
def levelOps (l : Fin 4) : List (HloOp τ sig (Elt F)) := distOps l ++ (minOps l ++ (takeOps l ++ stepOps l))

/-- The opening: a quantized sum of zero. -/
def openOps : List (HloOp τ sig (Elt F)) :=
  [ op0 (.of main_cst) (constant S_ .f32 0x00000000#32),
    op1 (.of (T := ⟨S_, .f32⟩) main_cst) (sumIn 0) (broadcastInDim S16384x32 ![] bcast_S_S16384x32) ]

/-- The four losses in one vector. -/
def cat1 (a b c d : (⟨S1, .f32⟩ : BufTy).Contents (Elt F)) : (⟨S4, .f32⟩ : BufTy).Contents (Elt F) :=
  concatenate S4 0 [⟨S1, a⟩, ⟨S1, b⟩, ⟨S1, c⟩, ⟨S1, d⟩] concatenates_S1_S1_S1_S1_S4_d0
/-- The four columns of indices side by side. -/
def cat2 (a b c d : (⟨S16384x1, .i32⟩ : BufTy).Contents (Elt F)) : (⟨S16384x4, .i32⟩ : BufTy).Contents (Elt F) :=
  concatenate S16384x4 1 [⟨S16384x1, a⟩, ⟨S16384x1, b⟩, ⟨S16384x1, c⟩, ⟨S16384x1, d⟩]
    concatenates_S16384x1_S16384x1_S16384x1_S16384x1_S16384x4_d1
/-- The four planes of distances side by side. -/
def cat3 (a b c d : (⟨S16384x1x1024, .f32⟩ : BufTy).Contents (Elt F)) : (⟨S16384x4x1024, .f32⟩ : BufTy).Contents (Elt F) :=
  concatenate S16384x4x1024 1 [⟨S16384x1x1024, a⟩, ⟨S16384x1x1024, b⟩, ⟨S16384x1x1024, c⟩, ⟨S16384x1x1024, d⟩]
    concatenates_S16384x1x1024_S16384x1x1024_S16384x1x1024_S16384x1x1024_S16384x4x1024_d1

/-- The closing: the mean of the losses, the stacked indices and the stacked distances. -/
def closeOps : List (HloOp τ sig (Elt F)) :=
  [ op1 (cell 0 61 S_ .f32) (.of (T := ⟨S1, .f32⟩) main_v129) (broadcastInDim S1 ![] bcast_S_S1),
    op1 (cell 1 61 S_ .f32) (.of (T := ⟨S1, .f32⟩) main_v130) (broadcastInDim S1 ![] bcast_S_S1),
    op1 (cell 2 61 S_ .f32) (.of (T := ⟨S1, .f32⟩) main_v131) (broadcastInDim S1 ![] bcast_S_S1),
    op1 (cell 3 61 S_ .f32) (.of (T := ⟨S1, .f32⟩) main_v132) (broadcastInDim S1 ![] bcast_S_S1),
    opCat (.of main_v129) (.of main_v130) (.of main_v131) (.of main_v132) (.of main_v133) cat1,
    op0 (.of main_cst_32) (constant S_ .f32 0x00000000#32),
    op2 (.of (T := ⟨S4, .f32⟩) main_v133) (.of (T := ⟨S_, .f32⟩) main_cst_32) (.of main_v134)
      (fun x v => Host.reduceAdd x v reducesTo_S4_S_d0 h_S_),
    op0 (.of main_cst_33) (constant S_ .f32 0x40800000#32),
    op2 (.of (T := ⟨S_, .f32⟩) main_v134) (.of (T := ⟨S_, .f32⟩) main_cst_33) (.of main_v135) Host.divf,
    op1 (cell 0 23 S16384 .i32) (.of (T := ⟨S16384x1, .i32⟩) main_v136) (broadcastInDim S16384x1 ![0] bcast_S16384_S16384x1_0),
    op1 (cell 1 23 S16384 .i32) (.of (T := ⟨S16384x1, .i32⟩) main_v137) (broadcastInDim S16384x1 ![0] bcast_S16384_S16384x1_0),
    op1 (cell 2 23 S16384 .i32) (.of (T := ⟨S16384x1, .i32⟩) main_v138) (broadcastInDim S16384x1 ![0] bcast_S16384_S16384x1_0),
    op1 (cell 3 23 S16384 .i32) (.of (T := ⟨S16384x1, .i32⟩) main_v139) (broadcastInDim S16384x1 ![0] bcast_S16384_S16384x1_0),
    opCat (.of main_v136) (.of main_v137) (.of main_v138) (.of main_v139) (.of main_v140) cat2,
    op1 (cell 0 18 S16384x1024 .f32) (.of (T := ⟨S16384x1x1024, .f32⟩) main_v141) (broadcastInDim S16384x1x1024 ![0, 2] bcast_S16384x1024_S16384x1x1024_0_2),
    op1 (cell 1 18 S16384x1024 .f32) (.of (T := ⟨S16384x1x1024, .f32⟩) main_v142) (broadcastInDim S16384x1x1024 ![0, 2] bcast_S16384x1024_S16384x1x1024_0_2),
    op1 (cell 2 18 S16384x1024 .f32) (.of (T := ⟨S16384x1x1024, .f32⟩) main_v143) (broadcastInDim S16384x1x1024 ![0, 2] bcast_S16384x1024_S16384x1x1024_0_2),
    op1 (cell 3 18 S16384x1024 .f32) (.of (T := ⟨S16384x1x1024, .f32⟩) main_v144) (broadcastInDim S16384x1x1024 ![0, 2] bcast_S16384x1024_S16384x1x1024_0_2),
    opCat (.of main_v141) (.of main_v142) (.of main_v143) (.of main_v144) (.of main_v145) cat3 ]

/-- The whole program. -/
def ops : List (HloOp τ sig (Elt F)) :=
  openOps ++ (levelOps 0 ++ (levelOps 1 ++ (levelOps 2 ++ (levelOps 3 ++ closeOps))))

end Cert.Proof.Ref

end
-- ==== Proof.RefMain.lean ====
/-
  The reference's @main is the list of operations of `RefOps`, window by window; every operation works on the
  TensorCore's buffers and determines its result.
-/
module

public import proofs.«01_k».proof.Proof.RefOps
public import Idealize.ShloMosaic.Lib.Tactic

@[expose] public section

noncomputable section

namespace Cert.Proof.Ref

open Cert.ReferenceIdeal Cert.ReferenceIdeal.Gen Idealize.ShloMosaic Idealize.ShloMosaic.TcCoe Idealize.SL.Sem
open Idealize.ShloMosaic.StableHlo

variable {F : FTy → Type} [FloatOps F]

set_option maxRecDepth 8192 in
set_option maxHeartbeats 4000000 in
theorem part0_eq (c : Dev nD) : main_part0 (F := F) c = seq (ops.take 86) := by sl_kernel_rfl
set_option maxRecDepth 8192 in
set_option maxHeartbeats 4000000 in
theorem part1_eq (c : Dev nD) : main_part1 (F := F) c = seq ((ops.drop 86).take 112) := by sl_kernel_rfl
set_option maxRecDepth 8192 in
set_option maxHeartbeats 4000000 in
theorem part2_eq (c : Dev nD) : main_part2 (F := F) c = seq ((ops.drop 198).take 86) := by sl_kernel_rfl
set_option maxRecDepth 8192 in
theorem part3_eq (c : Dev nD) : main_part3 (F := F) c = seq (ops.drop 284) := by sl_kernel_rfl

theorem main_eq (c : Dev nD) : main (F := F) c = seq ops := by
  have h1 : seq (ops (F := F)) = (seq (ops.take 86) >>= fun _ => seq (ops.drop 86) : Prog (TpuEff nD τ sig (Elt F) (Pipeline.Sig Λ₀ (Fin 0) fun p => (pcfgs (F := F) p).Adm) .tc) PUnit) := by
    rw [← seq_append, List.take_append_drop]
  have h2 : seq ((ops (F := F)).drop 86) = (seq ((ops.drop 86).take 112) >>= fun _ => seq (ops.drop 198) : Prog (TpuEff nD τ sig (Elt F) (Pipeline.Sig Λ₀ (Fin 0) fun p => (pcfgs (F := F) p).Adm) .tc) PUnit) := by
    have h : ((ops (F := F)).drop 86).take 112 ++ ops.drop 198 = ops.drop 86 := by
      rw [show 198 = 86 + 112 from rfl, ← List.drop_drop, List.take_append_drop]
    rw [← seq_append, h]
  have h3 : seq ((ops (F := F)).drop 198) = (seq ((ops.drop 198).take 86) >>= fun _ => seq (ops.drop 284) : Prog (TpuEff nD τ sig (Elt F) (Pipeline.Sig Λ₀ (Fin 0) fun p => (pcfgs (F := F) p).Adm) .tc) PUnit) := by
    have h : ((ops (F := F)).drop 198).take 86 ++ ops.drop 284 = ops.drop 198 := by
      rw [show 284 = 198 + 86 from rfl, ← List.drop_drop, List.take_append_drop]
    rw [← seq_append, h]
  rw [h1, h2, h3, ← part0_eq c, ← part1_eq c, ← part2_eq c, ← part3_eq c]
  rfl

/-! ## What the operations touch -/

section Touch

variable {T Ta Tb Tc Td : BufTy}

/-- An operation works on the TensorCore's buffers and determines its result. -/
structure Plain (op : HloOp τ sig (Elt F)) : Prop where
  /-- The buffers are the TensorCore's. -/
  sub : op.bufs ⊆ tcRefs τ sig
  /-- No result is left open. -/
  fresh : op.fresh = ∅

theorem plain0 (y : TRef sig T) (v : T.Contents (Elt F)) : Plain (op0 y v) := ⟨by unfold op0 TRef.nullary; apply nullary_bufs_sub, rfl⟩
theorem plain1 (a : TRef sig Ta) (y : TRef sig T) (f : Ta.Contents (Elt F) → T.Contents (Elt F)) :
    Plain (op1 a y f) := ⟨by unfold op1 TRef.unary; apply unary_bufs_sub, rfl⟩
theorem plain2 (a : TRef sig Ta) (b : TRef sig Tb) (y : TRef sig T)
    (f : Ta.Contents (Elt F) → Tb.Contents (Elt F) → T.Contents (Elt F)) : Plain (op2 a b y f) :=
  ⟨by unfold op2 TRef.binary; apply binary_bufs_sub, rfl⟩
theorem plain3 (a : TRef sig Ta) (b : TRef sig Tb) (c : TRef sig Tc) (y : TRef sig T)
    (f : Ta.Contents (Elt F) → Tb.Contents (Elt F) → Tc.Contents (Elt F) → T.Contents (Elt F)) :
    Plain (op3 a b c y f) := ⟨by unfold op3 TRef.ternary; apply ternary_bufs_sub, rfl⟩
theorem plain4 (a : TRef sig Ta) (b : TRef sig Tb) (c : TRef sig Tc) (d : TRef sig Td) (y : TRef sig T)
    (f : Ta.Contents (Elt F) → Tb.Contents (Elt F) → Tc.Contents (Elt F) → Td.Contents (Elt F) → T.Contents (Elt F)) :
    Plain (op4 a b c d y f) := ⟨by unfold op4 TRef.quaternary; apply quaternary_bufs_sub, rfl⟩
theorem plainShape (a : TRef sig Ta) (y : TRef sig T) (he hn) : Plain (F := F) (opShape a y he hn) :=
  ⟨by unfold opShape TRef.reshape; apply reshape_bufs_sub, rfl⟩
theorem plainCat (a b c d : TRef sig Ta) (y : TRef sig T)
    (f : Ta.Contents (Elt F) → Ta.Contents (Elt F) → Ta.Contents (Elt F) → Ta.Contents (Elt F) → T.Contents (Elt F)) :
    Plain (opCat a b c d y f) := ⟨by unfold opCat; apply nary_bufs_sub, rfl⟩

end Touch

theorem level_plain (l : Fin 4) : (levelOps (F := F) l).Forall Plain := by
  unfold levelOps distOps minOps takeOps stepOps
  simp only [List.forall_append, List.Forall]
  repeat' apply And.intro
  all_goals first | with_reducible apply plain0 | with_reducible apply plain1 | with_reducible apply plain2 | with_reducible apply plain3 | with_reducible apply plain4 | with_reducible apply plainShape

theorem open_plain : (openOps (F := F)).Forall Plain := by
  unfold openOps
  exact And.intro (plain0 _ _) (plain1 _ _ _)

theorem close_plain : (closeOps (F := F)).Forall Plain := by
  unfold closeOps
  simp only [List.Forall]
  repeat' apply And.intro
  all_goals first | with_reducible apply plain0 | with_reducible apply plain1 | with_reducible apply plain2 | with_reducible apply plainCat

theorem ops_plain : ∀ op ∈ ops (F := F), Plain op := by
  rw [← List.forall_iff_forall_mem]
  unfold ops
  simp only [List.forall_append]
  exact ⟨open_plain, level_plain 0, level_plain 1, level_plain 2, level_plain 3, close_plain⟩

theorem scopedRefs_eq : (Finset.univ.filter fun b : Ref sig .tc => b.isScoped) = ∅ := by decide
theorem scopedSems_eq : (Finset.univ.filter fun sm : SemLoc sig => sm.isScoped .tc) = ∅ := by decide

/-- Every execution ends with the buffers holding what the operations in order leave there. -/
theorem run (m : (ℓ : Loc nD τ sig) → Buf (Elt F) ℓ) (ρ : Dev nD → PrngReg) :
    θ_run (defs (F := F)) (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq
    (fun _ => List.forall_iff_forall_mem.mpr fun op h => (ops_plain op h).sub) m ρ fun _ op h => (ops_plain op h).fresh

end Cert.Proof.Ref

end
-- ==== Proof.RefRun.lean ====
/-
  What the reference program leaves in its buffers: one lemma per stage of a level, one for a level, and the
  four levels in a row.
-/
module

public import proofs.«01_k».proof.Proof.RefMain

@[expose] public section

noncomputable section

namespace Cert.Proof.Ref

open Cert.ReferenceIdeal Cert.ReferenceIdeal.Gen Idealize.ShloMosaic Idealize.ShloMosaic.TcCoe Idealize.SL.Sem
open Idealize.ShloMosaic.StableHlo

variable {F : FTy → Type} [FloatOps F]

theorem cell_ne {l : Fin 4} {j k : Fin 66} {S S' : Shape} {e e' : EltTy} {h : levelTy j = ⟨S, e⟩}
    {h' : levelTy k = ⟨S', e'⟩} (hjk : j ≠ k) : (cell l j S e h).ref ≠ (cell l k S' e' h').ref :=
  fun h => hjk (buf_inj.mp h)
theorem resIn_ne {l : Fin 4} {k : Fin 66} {S : Shape} {e : EltTy} {h : levelTy k = ⟨S, e⟩} :
    (resIn l).ref ≠ (cell l k S e h).ref := resBuf_ne l k
theorem sumIn_ne {l : Fin 4} {k : Fin 66} {S : Shape} {e : EltTy} {h : levelTy k = ⟨S, e⟩} :
    (sumIn l).ref ≠ (cell l k S e h).ref := sumBuf_ne l k
theorem argC_ne' {l : Fin 4} {k : Fin 66} {S : Shape} {e : EltTy} {h : levelTy k = ⟨S, e⟩} :
    argC.ref ≠ (cell l k S e h).ref := argC_ne l k

/-- The operations write only the level's buffers numbered from `lo` up to, not including, `hi`. -/
def Within (l : Fin 4) (lo hi : ℕ) (os : List (HloOp τ sig (Elt F))) : Prop :=
  os.Forall fun op => ∃ k : Fin 66, (lo ≤ k.val ∧ k.val < hi) ∧ op.writes = {Proc.devRef (τ := τ) .tc (buf l k)}

theorem rd_within {l : Fin 4} {lo hi : ℕ} {os : List (HloOp τ sig (Elt F))} (h : Within l lo hi os) {T : BufTy}
    (t : TRef sig T) (V : Valuation τ sig (Elt F))
    (ht : ∀ k : Fin 66, lo ≤ k.val ∧ k.val < hi → t.ref ≠ buf l k) : rd t (after os V) = rd t V := by
  induction os generalizing V with
  | nil => rfl
  | cons o os ih =>
    obtain ⟨⟨k, hk, hw⟩, h2⟩ := (List.forall_cons _ _ _).mp h
    rw [after_cons, ih h2, rd_other V o t (buf l k) hw (ht k hk)]

theorem dist_within (l : Fin 4) : Within (F := F) l 0 19 (distOps l) := by
  unfold Within distOps
  simp only [List.Forall]
  repeat' apply And.intro
  all_goals exact ⟨_, by decide, rfl⟩
theorem min_within (l : Fin 4) : Within (F := F) l 19 24 (minOps l) := by
  unfold Within minOps
  simp only [List.Forall]
  repeat' apply And.intro
  all_goals exact ⟨_, by decide, rfl⟩
theorem take_within (l : Fin 4) : Within (F := F) l 24 47 (takeOps l) := by
  unfold Within takeOps
  simp only [List.Forall]
  repeat' apply And.intro
  all_goals exact ⟨_, by decide, rfl⟩
theorem step_within (l : Fin 4) : Within (F := F) l 47 66 (stepOps l) := by
  unfold Within stepOps
  simp only [List.Forall]
  repeat' apply And.intro
  all_goals exact ⟨_, by decide, rfl⟩

/-! ## The stages -/

theorem dist_book (l : Fin 4) (V : Valuation τ sig (Elt F)) :
    rd (cell l 1 S1024x32 .f32) (after (distOps l) V) = book l (rd argC V) := by
  unfold distOps
  simp (disch := first | exact cell_ne (by decide) | exact resIn_ne | exact argC_ne') only
    [after_cons, after_nil, rd_op0, rd_op1, rd_op2, rd_opShape, rd_op0_ne, rd_op1_ne, rd_op2_ne, rd_opShape_ne]
  rfl

theorem dist_dist (l : Fin 4) (V : Valuation τ sig (Elt F)) :
    rd (cell l 18 S16384x1024 .f32) (after (distOps l) V) = dists (book l (rd argC V)) (rd (resIn l) V) := by
  unfold distOps
  simp (disch := first | exact cell_ne (by decide) | exact resIn_ne | exact argC_ne') only
    [after_cons, after_nil, rd_op0, rd_op1, rd_op2, rd_opShape, rd_op0_ne, rd_op1_ne, rd_op2_ne, rd_opShape_ne]
  rfl

theorem min_idx (l : Fin 4) (V : Valuation τ sig (Elt F)) :
    rd (cell l 23 S16384 .i32) (after (minOps l) V) = nearest (rd (cell l 18 S16384x1024 .f32) V) := by
  unfold minOps
  simp (disch := first | exact cell_ne (by decide)) only
    [after_cons, after_nil, rd_op0, rd_op4, rd_op0_ne, rd_op4_ne]
  rfl

theorem take_code (l : Fin 4) (V : Valuation τ sig (Elt F)) :
    rd (cell l 46 S16384x32 .f32) (after (takeOps l) V)
      = lookup (rd (cell l 1 S1024x32 .f32) V) (rd (cell l 23 S16384 .i32) V) := by
  unfold takeOps
  simp (disch := first | exact cell_ne (by decide)) only
    [after_cons, after_nil, rd_op0, rd_op1, rd_op2, rd_op3, rd_op0_ne, rd_op1_ne, rd_op2_ne, rd_op3_ne]
  rfl

theorem step_loss (l : Fin 4) (V : Valuation τ sig (Elt F)) :
    rd (cell l 61 S_ .f32) (after (stepOps l) V)
      = lossOf (rd (resIn l) V) (rd (cell l 46 S16384x32 .f32) V) := by
  unfold stepOps
  simp (disch := first | exact cell_ne (by decide) | exact resIn_ne | exact sumIn_ne) only
    [after_cons, after_nil, rd_op0, rd_op2, rd_op0_ne, rd_op2_ne]
  rfl

theorem step_res (l : Fin 4) (V : Valuation τ sig (Elt F)) :
    rd (cell l 64 S16384x32 .f32) (after (stepOps l) V)
      = subf (rd (resIn l) V) (stepOf (rd (resIn l) V) (rd (cell l 46 S16384x32 .f32) V)) := by
  unfold stepOps
  simp (disch := first | exact cell_ne (by decide) | exact resIn_ne | exact sumIn_ne) only
    [after_cons, after_nil, rd_op0, rd_op2, rd_op0_ne, rd_op2_ne]
  rfl

theorem step_sum (l : Fin 4) (V : Valuation τ sig (Elt F)) :
    rd (cell l 65 S16384x32 .f32) (after (stepOps l) V)
      = addf (rd (sumIn l) V) (stepOf (rd (resIn l) V) (rd (cell l 46 S16384x32 .f32) V)) := by
  unfold stepOps
  simp (disch := first | exact cell_ne (by decide) | exact resIn_ne | exact sumIn_ne) only
    [after_cons, after_nil, rd_op0, rd_op2, rd_op0_ne, rd_op2_ne]
  rfl

/-! ## A level -/

/-- The codes nearest to the rows of the residual. -/
def codeOf (e : (⟨S1024x32, .f32⟩ : BufTy).Contents (Elt F)) (r : Mat F) : Mat F := lookup e (nearest (dists e r))

/-- What a level leaves: distances, indices, loss, residual and sum, from the codebook, the residual and the sum. -/
structure Leaves (l : Fin 4) (e : (⟨S1024x32, .f32⟩ : BufTy).Contents (Elt F)) (r s : Mat F)
    (V : Valuation τ sig (Elt F)) : Prop where
  dist : rd (cell l 18 S16384x1024 .f32) V = dists e r
  idx : rd (cell l 23 S16384 .i32) V = nearest (dists e r)
  loss : rd (cell l 61 S_ .f32) V = lossOf r (codeOf e r)
  res : rd (cell l 64 S16384x32 .f32) V = subf r (stepOf r (codeOf e r))
  sum : rd (cell l 65 S16384x32 .f32) V = addf s (stepOf r (codeOf e r))

theorem ne_cell {l : Fin 4} {j : Fin 66} {S : Shape} {e : EltTy} {h : levelTy j = ⟨S, e⟩} {lo hi : ℕ}
    (hj : ¬ (lo ≤ j.val ∧ j.val < hi)) : ∀ k : Fin 66, lo ≤ k.val ∧ k.val < hi → (cell l j S e h).ref ≠ buf l k := by
  intro k hk h
  obtain rfl := buf_inj.mp h
  exact hj hk

theorem level_leaves (l : Fin 4) (V : Valuation τ sig (Elt F)) :
    Leaves l (book l (rd argC V)) (rd (resIn l) V) (rd (sumIn l) V) (after (levelOps l) V) := by
  have hr1 := rd_within (dist_within (F := F) l) (resIn l) V (fun k _ => resBuf_ne l k)
  have hs1 := rd_within (dist_within (F := F) l) (sumIn l) V (fun k _ => sumBuf_ne l k)
  have hb1 := dist_book l V
  have hd1 := dist_dist l V
  have hA : after (levelOps l) V = after (stepOps l) (after (takeOps l) (after (minOps l) (after (distOps l) V))) := by
    unfold levelOps; rw [after_append, after_append, after_append]
  generalize after (distOps l) V = V1 at hr1 hs1 hb1 hd1 hA
  have hr2 := rd_within (min_within (F := F) l) (resIn l) V1 (fun k _ => resBuf_ne l k)
  have hs2 := rd_within (min_within (F := F) l) (sumIn l) V1 (fun k _ => sumBuf_ne l k)
  have hb2 := rd_within (min_within (F := F) l) (cell l 1 S1024x32 .f32) V1 (ne_cell (by decide))
  have hd2 := rd_within (min_within (F := F) l) (cell l 18 S16384x1024 .f32) V1 (ne_cell (by decide))
  have hi2 := min_idx l V1
  generalize after (minOps l) V1 = V2 at hr2 hs2 hb2 hd2 hi2 hA
  have hr3 := rd_within (take_within (F := F) l) (resIn l) V2 (fun k _ => resBuf_ne l k)
  have hs3 := rd_within (take_within (F := F) l) (sumIn l) V2 (fun k _ => sumBuf_ne l k)
  have hd3 := rd_within (take_within (F := F) l) (cell l 18 S16384x1024 .f32) V2 (ne_cell (by decide))
  have hi3 := rd_within (take_within (F := F) l) (cell l 23 S16384 .i32) V2 (ne_cell (by decide))
  have hq3 := take_code l V2
  generalize after (takeOps l) V2 = V3 at hr3 hs3 hd3 hi3 hq3 hA
  have hd4 := rd_within (step_within (F := F) l) (cell l 18 S16384x1024 .f32) V3 (ne_cell (by decide))
  have hi4 := rd_within (step_within (F := F) l) (cell l 23 S16384 .i32) V3 (ne_cell (by decide))
  have hq : rd (cell l 46 S16384x32 .f32) V3 = codeOf (book l (rd argC V)) (rd (resIn l) V) := by
    rw [hq3, hb2, hb1, hi2, hd1]; rfl
  rw [hA]
  refine ⟨?_, ?_, ?_, ?_, ?_⟩
  · rw [hd4, hd3, hd2, hd1]
  · rw [hi4, hi3, hi2, hd1]
  · rw [step_loss, hq, hr3, hr2, hr1]
  · rw [step_res, hq, hr3, hr2, hr1]
  · rw [step_sum, hq, hr3, hr2, hr1, hs3, hs2, hs1]

/-- A level leaves alone the buffers numbered below its own. -/
theorem level_keeps (l : Fin 4) {T : BufTy} (t : TRef sig T) (V : Valuation τ sig (Elt F))
    (ht : ∀ k : Fin 66, t.ref ≠ buf l k) : rd t (after (levelOps l) V) = rd t V := by
  unfold levelOps
  rw [after_append, after_append, after_append, rd_within (step_within l) t _ (fun k _ => ht k),
    rd_within (take_within l) t _ (fun k _ => ht k), rd_within (min_within l) t _ (fun k _ => ht k),
    rd_within (dist_within l) t _ (fun k _ => ht k)]

/-! ## The four levels -/

/-- The level numbered `n`. -/
abbrev lv (n : ℕ) : Fin 4 := Fin.ofNat 4 n

/-- The residual after `n` levels. -/
def resAt (x : Mat F) (c : (⟨S4x1024x32, .f32⟩ : BufTy).Contents (Elt F)) : ℕ → Mat F
  | 0 => x
  | n + 1 => subf (resAt x c n) (stepOf (resAt x c n) (codeOf (book (lv n) c) (resAt x c n)))

/-- The quantized sum after `n` levels. -/
def sumAt (x : Mat F) (c : (⟨S4x1024x32, .f32⟩ : BufTy).Contents (Elt F)) : ℕ → Mat F
  | 0 => broadcastInDim S16384x32 ![] bcast_S_S16384x32 (constant S_ .f32 0x00000000#32)
  | n + 1 => addf (sumAt x c n) (stepOf (resAt x c n) (codeOf (book (lv n) c) (resAt x c n)))

/-- The first `n` levels are done. -/
structure Done (x : Mat F) (c : (⟨S4x1024x32, .f32⟩ : BufTy).Contents (Elt F)) (n : ℕ)
    (V : Valuation τ sig (Elt F)) : Prop where
  argx : rd argX V = x
  argc : rd argC V = c
  sum0 : rd (sumIn 0) V = sumAt x c 0
  leaves : ∀ l : Fin 4, l.val < n → Leaves l (book l c) (resAt x c l.val) (sumAt x c l.val) V

variable {x : Mat F} {c : (⟨S4x1024x32, .f32⟩ : BufTy).Contents (Elt F)} {V : Valuation τ sig (Elt F)}

theorem Done.resIn {l : Fin 4} (h : Done x c l.val V) : rd (resIn l) V = resAt x c l.val := by
  fin_cases l
  · exact h.argx
  · exact (h.leaves 0 (by decide)).res
  · exact (h.leaves 1 (by decide)).res
  · exact (h.leaves 2 (by decide)).res

theorem Done.sumIn {l : Fin 4} (h : Done x c l.val V) : rd (sumIn l) V = sumAt x c l.val := by
  fin_cases l
  · exact h.sum0
  · exact (h.leaves 0 (by decide)).sum
  · exact (h.leaves 1 (by decide)).sum
  · exact (h.leaves 2 (by decide)).sum

theorem Done.next {l : Fin 4} (h : Done x c l.val V) : Done x c (l.val + 1) (after (levelOps l) V) := by
  have hk : ∀ (j : Fin 4) (_ : j.val < l.val) (i k : Fin 66), buf j i ≠ buf l k := fun j hj i k =>
    ne_buf (by simp only [bufNo]; omega)
  refine ⟨?_, ?_, ?_, ?_⟩
  · rw [level_keeps l argX V (fun k => ne_buf (by show 0 < _; omega)), h.argx]
  · rw [level_keeps l argC V (fun k => argC_ne l k), h.argc]
  · rw [level_keeps l (Ref.sumIn 0) V (fun k => ne_buf (by show 3 < _; omega)), h.sum0]
  · intro j hj
    rcases Nat.lt_succ_iff_lt_or_eq.mp hj with hj | hj
    · have hL := h.leaves j hj
      refine ⟨?_, ?_, ?_, ?_, ?_⟩
      · rw [level_keeps l _ V (hk j hj _), hL.dist]
      · rw [level_keeps l _ V (hk j hj _), hL.idx]
      · rw [level_keeps l _ V (hk j hj _), hL.loss]
      · rw [level_keeps l _ V (hk j hj _), hL.res]
      · rw [level_keeps l _ V (hk j hj _), hL.sum]
    · obtain rfl := Fin.ext hj
      have := level_leaves j V
      rw [h.argc, h.resIn, h.sumIn] at this
      exact this

theorem open_done (V : Valuation τ sig (Elt F)) : Done (rd argX V) (rd argC V) 0 (after openOps V) := by
  refine ⟨?_, ?_, ?_, fun l hl => absurd hl (Nat.not_lt_zero _)⟩
  · unfold openOps
    simp only [after_cons, after_nil]
    rw [rd_op1_ne _ _ _ _ _ (by decide), rd_op0_ne _ _ _ _ (by decide)]
  · unfold openOps
    simp only [after_cons, after_nil]
    rw [rd_op1_ne _ _ _ _ _ (by decide), rd_op0_ne _ _ _ _ (by decide)]
  · unfold openOps
    simp only [after_cons, after_nil]
    rw [rd_op1, rd_op0]
    rfl

theorem levels_done (V : Valuation τ sig (Elt F)) :
    Done (rd argX V) (rd argC V) 4
      (after (levelOps 3) (after (levelOps 2) (after (levelOps 1) (after (levelOps 0) (after openOps V))))) :=
  (((open_done V).next (l := 0)).next (l := 1)).next (l := 2) |>.next (l := 3)

/-! ## The results -/

/-- The loss: the mean of the levels' losses. -/
def lossAll (x : Mat F) (c : (⟨S4x1024x32, .f32⟩ : BufTy).Contents (Elt F)) : (⟨S_, .f32⟩ : BufTy).Contents (Elt F) :=
  let p (l : Fin 4) := broadcastInDim S1 ![] bcast_S_S1 (lossOf (resAt x c l.val) (codeOf (book l c) (resAt x c l.val)))
  Host.divf (Host.reduceAdd (cat1 (p 0) (p 1) (p 2) (p 3)) (constant S_ .f32 0x00000000#32) reducesTo_S4_S_d0 h_S_)
    (constant S_ .f32 0x40800000#32)

/-- The indices, a column per level. -/
def idxAll (x : Mat F) (c : (⟨S4x1024x32, .f32⟩ : BufTy).Contents (Elt F)) : (⟨S16384x4, .i32⟩ : BufTy).Contents (Elt F) :=
  let p (l : Fin 4) := broadcastInDim S16384x1 ![0] bcast_S16384_S16384x1_0 (nearest (dists (book l c) (resAt x c l.val)))
  cat2 (F := F) (p 0) (p 1) (p 2) (p 3)

/-- The distances, a plane per level. -/
def distAll (x : Mat F) (c : (⟨S4x1024x32, .f32⟩ : BufTy).Contents (Elt F)) : (⟨S16384x4x1024, .f32⟩ : BufTy).Contents (Elt F) :=
  let p (l : Fin 4) := broadcastInDim S16384x1x1024 ![0, 2] bcast_S16384x1024_S16384x1x1024_0_2 (dists (book l c) (resAt x c l.val))
  cat3 (p 0) (p 1) (p 2) (p 3)

/-- The program's results and its arguments at the end. -/
structure Ends (x : Mat F) (c : (⟨S4x1024x32, .f32⟩ : BufTy).Contents (Elt F)) (V : Valuation τ sig (Elt F)) : Prop where
  argx : rd argX V = x
  argc : rd argC V = c
  sum : rd (cell 3 65 S16384x32 .f32) V = sumAt x c 4
  res : rd (cell 3 64 S16384x32 .f32) V = resAt x c 4
  loss : rd (.of (T := ⟨S_, .f32⟩) main_v135) V = lossAll x c
  idx : rd (.of (T := ⟨S16384x4, .i32⟩) main_v140) V = idxAll x c
  dist : rd (.of (T := ⟨S16384x4x1024, .f32⟩) main_v145) V = distAll x c

theorem close_ends (h : Done x c 4 V) : Ends x c (after closeOps V) := by
  refine ⟨?_, ?_, ?_, ?_, ?_, ?_, ?_⟩
  · unfold closeOps
    simp (disch := decide) only [after_cons, after_nil, rd_op0_ne, rd_op1_ne, rd_op2_ne, rd_opCat_ne]
    exact h.argx
  · unfold closeOps
    simp (disch := decide) only [after_cons, after_nil, rd_op0_ne, rd_op1_ne, rd_op2_ne, rd_opCat_ne]
    exact h.argc
  · unfold closeOps
    simp (disch := decide) only [after_cons, after_nil, rd_op0_ne, rd_op1_ne, rd_op2_ne, rd_opCat_ne]
    exact (h.leaves 3 (by decide)).sum
  · unfold closeOps
    simp (disch := decide) only [after_cons, after_nil, rd_op0_ne, rd_op1_ne, rd_op2_ne, rd_opCat_ne]
    exact (h.leaves 3 (by decide)).res
  · unfold closeOps
    simp (disch := decide) only [after_cons, after_nil, rd_op0, rd_op1, rd_op2, rd_opCat, rd_op0_ne, rd_op1_ne, rd_op2_ne, rd_opCat_ne]
    rw [(h.leaves 0 (by decide)).loss, (h.leaves 1 (by decide)).loss, (h.leaves 2 (by decide)).loss,
      (h.leaves 3 (by decide)).loss]
    rfl
  · unfold closeOps
    simp (disch := decide) only [after_cons, after_nil, rd_op0, rd_op1, rd_op2, rd_opCat, rd_op0_ne, rd_op1_ne, rd_op2_ne, rd_opCat_ne]
    rw [(h.leaves 0 (by decide)).idx, (h.leaves 1 (by decide)).idx, (h.leaves 2 (by decide)).idx,
      (h.leaves 3 (by decide)).idx]
    rfl
  · unfold closeOps
    simp (disch := decide) only [after_cons, after_nil, rd_op0, rd_op1, rd_op2, rd_opCat, rd_op0_ne, rd_op1_ne, rd_op2_ne, rd_opCat_ne]
    rw [(h.leaves 0 (by decide)).dist, (h.leaves 1 (by decide)).dist, (h.leaves 2 (by decide)).dist,
      (h.leaves 3 (by decide)).dist]
    rfl

theorem ops_ends (V : Valuation τ sig (Elt F)) : Ends (rd argX V) (rd argC V) (after ops V) := by
  have h := close_ends (levels_done V)
  unfold ops
  rw [after_append, after_append, after_append, after_append, after_append]
  exact h

/-- Every execution ends with the results at the functions above of the arguments, the arguments unchanged. -/
theorem run_value (m : (ℓ : Loc nD τ sig) → Buf (Elt F) ℓ) (ρ : Dev nD → PrngReg) :
    θ_run (defs (F := F)) (onTc (τ := τ) (main (F := F))) ⟨m, fun _ => 0, ρ⟩ fun r => ∀ d : Dev nD,
      r.2.mem ((d.tc : Thread nD τ).loc main_v128) = sumAt (m ((d.tc : Thread nD τ).loc main_arg0)) (m ((d.tc : Thread nD τ).loc main_arg1)) 4
      ∧ r.2.mem ((d.tc : Thread nD τ).loc main_v127) = resAt (m ((d.tc : Thread nD τ).loc main_arg0)) (m ((d.tc : Thread nD τ).loc main_arg1)) 4
      ∧ r.2.mem ((d.tc : Thread nD τ).loc main_v135) = lossAll (m ((d.tc : Thread nD τ).loc main_arg0)) (m ((d.tc : Thread nD τ).loc main_arg1))
      ∧ r.2.mem ((d.tc : Thread nD τ).loc main_v140) = idxAll (m ((d.tc : Thread nD τ).loc main_arg0)) (m ((d.tc : Thread nD τ).loc main_arg1))
      ∧ r.2.mem ((d.tc : Thread nD τ).loc main_v145) = distAll (m ((d.tc : Thread nD τ).loc main_arg0)) (m ((d.tc : Thread nD τ).loc main_arg1))
      ∧ r.2.mem ((d.tc : Thread nD τ).loc main_arg0) = m ((d.tc : Thread nD τ).loc main_arg0)
      ∧ r.2.mem ((d.tc : Thread nD τ).loc main_arg1) = m ((d.tc : Thread nD τ).loc main_arg1) := by
  refine (θ_run defs _ _).mono (fun r h d => ?_) (run m ρ)
  have e := ops_ends (launchContents m d)
  refine ⟨(h d main_v128).trans e.sum, (h d main_v127).trans e.res, (h d main_v135).trans e.loss,
    (h d main_v140).trans e.idx, (h d main_v145).trans e.dist, (h d main_arg0).trans e.argx, (h d main_arg1).trans e.argc⟩

end Cert.Proof.Ref

end
-- ==== Proof.Frames.lean ====
/-
  Every program runs to the end from every memory, leaves its arguments unchanged and every semaphore at zero.
-/
module

public import proofs.«01_k».proof.Defs
public import proofs.«01_k».proof.Proof.Gen.Kernel.Frame
public import proofs.«01_k».proof.Proof.Gen.KernelIdeal.Frame
public import proofs.«01_k».proof.Proof.RefRun

@[expose] public section

noncomputable section

namespace Cert.Proof

open Idealize.ShloMosaic Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

theorem frame_reference : Cert.quiescent_ReferenceIdeal := fun m ρ _ =>
  (θ_run _ _ _).mono
    (fun _ h => ⟨fun c => (h c).2.2.2.2.2, sem_eq_zero_of_no_sems (by decide) _⟩)
    (Ref.run_value m ρ)

end Cert.Proof

end
-- ==== Proof.KerBlock.lean ====
/-
  What the kernel's body leaves at a grid point: the quantization level as a function of a block of residuals
  and a codebook, iterated four times, and the body's stores read as these functions.
-/
module

public import proofs.«01_k».proof.Proof.Gen.KernelIdeal.Frame
public import Idealize.ShloMosaic.Lib.ValueLayout
public import Idealize.ShloMosaic.Lib.ValueLayoutCasts
public import Idealize.ShloMosaic.Lib.Pipeline.ValueKit.Tiles

@[expose] public section

noncomputable section

namespace Cert.Proof.Ker

open Cert.KernelIdeal Cert.KernelIdeal.Gen Idealize.ShloMosaic Idealize.ShloMosaic.TcCoe Idealize.ShloMosaic.ValueIdx
open Idealize.SL.Sem

variable {F : FTy → Type} [FloatOps F]

/-! ## A level on a block of rows -/

variable (F) in
/-- A block of rows; a codebook has the same shape. -/
abbrev Blk := FVec F S1024x32 .f32

/-- The squared distances of every row to every code. -/
def dists (e r : Blk F) : FVec F S1024x1024 .f32 :=
  subf
    (addf
      (broadcastTo S1024x1024 (shapeCast S1024x1
        (multiReduction .add [1] S1024 (mulf r r) 0x00000000#32 reduces_S1024x32_S1024 (.inl rfl) rfl)
        shapeCasts_S1024_S1024x1) broadcasts_S1024x1_S1024x1024)
      (broadcastTo S1024x1024 (shapeCast S1x1024
        (multiReduction .add [1] S1024 (mulf e e) 0x00000000#32 reduces_S1024x32_S1024 (.inl rfl) rfl)
        shapeCasts_S1024_S1x1024) broadcasts_S1x1024_S1024x1024))
    (matmul dot_S1024x32_S1024x32_S1024x1024_1_1_0_0_n_n none (addf r r) e (constant S1024x1024 .f32 0x00000000#32))

/-- The number of each column. -/
def cols : IVec S1024x1024 32 := iota .tc S1024x1024 32 [1] iota_S1024x1024_d1_w32

/-- The least index at which a row's distance is its minimum. -/
def nearest (d : FVec F S1024x1024 .f32) : IVec S1024 32 :=
  multiReductionI .minsi [1] S1024
    (select (cmpf .oeq d (broadcastTo S1024x1024 (shapeCast S1024x1
        (multiReduction .minimumf [1] S1024 d 0x7F800000#32 reduces_S1024x1024_S1024 (.inl rfl) rfl)
        shapeCasts_S1024_S1024x1) broadcasts_S1024x1_S1024x1024))
      cols (broadcast S1024x1024 1024#32))
    2147483647#32 reduces_S1024x1024_S1024 rfl

/-- The codebook beside what its half-width copy misses. -/
def halves (e : Blk F) : FVec F S1024x64 .bf16 :=
  concatenate S1024x64 1 [⟨S1024x32, truncf .bf16 e bitsLt_bf16_f32⟩,
    ⟨S1024x32, truncf .bf16 (subf e (extf .f32 (truncf .bf16 e bitsLt_bf16_f32) bitsLt_bf16_f32)) bitsLt_bf16_f32⟩]
    concatenates_S1024x32_S1024x32_S1024x64_d1

/-- The zero-one matrix with a one at each row's index. -/
def marks (i : IVec S1024 32) : FVec F S1024x1024 .f32 :=
  sitofp .f32 (extui 32 (cmpi .eq cols (broadcastTo S1024x1024 (shapeCast S1024x1 i shapeCasts_S1024_S1024x1)
    broadcasts_S1024x1_S1024x1024)) natLt_1_32)

/-- The products with both halves of the codebook. -/
def picked (e : Blk F) (i : IVec S1024 32) : FVec F S1024x64 .f32 :=
  matmul dot_S1024x1024_S1024x64_S1024x64_1_0_0_1_n_n none (truncf .bf16 (marks (F := F) i) bitsLt_bf16_f32) (halves e)
    (constant S1024x64 .f32 0x00000000#32)

/-- The codes at the indices. -/
def lookup (e : Blk F) (i : IVec S1024 32) : Blk F :=
  addf (extractStridedSlice S1024x32 ![0, 0] (picked e i) slices_S1024x64_o0_0_S1024x32)
    (extractStridedSlice S1024x32 ![0, 32] (picked e i) slices_S1024x64_o0_32_S1024x32)

/-- The sum of the squared differences over the block. -/
def sqSum (r q : Blk F) : F .f32 :=
  extractAt ![0, 0, 0] (shapeCast S1x1x1
    (multiReduction .add [1, 2] S1 (shapeCast S1x1024x32 (mulf (subf r q) (subf r q)) shapeCasts_S1024x32_S1x1024x32)
      0x00000000#32 reduces_S1x1024x32_S1 (.inl rfl) rfl) shapeCasts_S1_S1x1x1) inpos_S1x1x1_p0_0_0

/-- What a level subtracts from the residual. -/
def stepOf (r q : Blk F) : Blk F := addf r (subf q r)

/-! ## The four levels -/

theorem plane_ok (l : Fin 4) : ∀ a : Fin S4x1024x32.rank, (![l.val, 0, 0] : Fin 3 → ℕ) a + (![1, 1024, 32] : Fin 3 → ℕ) a ≤ S4x1024x32.size a := by
  intro a
  have h := l.isLt
  match a with
  | ⟨0, _⟩ => show l.val + 1 ≤ 4; omega
  | ⟨1, _⟩ => show 0 + 1024 ≤ 1024; omega
  | ⟨2, _⟩ => show 0 + 32 ≤ 32; omega

/-- The level numbered `n`. -/
abbrev lv (n : ℕ) : Fin 4 := Fin.ofNat 4 n

/-- Level `l`'s codebook. -/
def book (l : Fin 4) (c : Vec F S4x1024x32 .f32) : Blk F :=
  shapeCast S1024x32 (View.ld c (Rect.unit ![l.val, 0, 0] ![1, 1024, 32] (plane_ok l)) : Vec F S1x1024x32 .f32)
    shapeCasts_S1x1024x32_S1024x32

/-- The codes nearest to the rows. -/
def codeOf (e r : Blk F) : Blk F := lookup e (nearest (dists e r))

/-- The residual after `n` levels. -/
def resAt (x : Blk F) (c : Vec F S4x1024x32 .f32) : ℕ → Blk F
  | 0 => x
  | n + 1 => subf (resAt x c n) (stepOf (resAt x c n) (codeOf (book (lv n) c) (resAt x c n)))

/-- The quantized sum after `n` levels. -/
def sumAt (x : Blk F) (c : Vec F S4x1024x32 .f32) : ℕ → Blk F
  | 0 => broadcast S1024x32 (Scalar.ofBits .f32 0x00000000#32)
  | n + 1 => addf (sumAt x c n) (stepOf (resAt x c n) (codeOf (book (lv n) c) (resAt x c n)))

/-- The squared differences summed over `n` levels. -/
def sqAt (x : Blk F) (c : Vec F S4x1024x32 .f32) : ℕ → F .f32
  | 0 => Scalar.ofBits .f32 0x00000000#32
  | n + 1 => Scalar.addf (sqAt x c n) (sqSum (resAt x c n) (codeOf (book (lv n) c) (resAt x c n)))

/-- Level `n`'s distances. -/
def distAt (x : Blk F) (c : Vec F S4x1024x32 .f32) (n : ℕ) : FVec F S1024x1024 .f32 := dists (book (lv n) c) (resAt x c n)

/-! ## The body's stores -/

theorem hz : (![0, 0] : Fin 2 → Nat) = fun _ => 0 := funext fun a => by fin_cases a <;> rfl

/-- Of rows stored one level each, the one an index lies in. -/
theorem row_tile (I : ℕ → IVec S1024 32) (k : ℕ) (y : S4x1024.Idx) :
    View.TileAt (Val := Elt F) (e := .i32) y ![k, 0] ![1, 1024] (shapeCast S1x1024 (I k) shapeCasts_S1024_S1x1024)
      (I (y 0).val (ix1 (y 1))) := by
  intro x hx
  have h0 : (y 0).val = k + (x 0).val := hx 0
  have h1 : (y 1).val = 0 + (x 1).val := hx 1
  have hl : (x 0).val < 1 := (x 0).isLt
  have hk : (y 0).val = k := by omega
  have hy : (y 1 : Fin 1024) = x 1 := Fin.ext (by omega)
  rw [hk, hy, show x = ix2 (x 0) (x 1) from eq_ix2 x]
  exact shapeCast_a_1a_apply _ _ _ _

/-- Of matrices stored one level each, the one an index lies in. -/
theorem plane_tile (D : ℕ → FVec F S1024x1024 .f32) (k : ℕ) (y : S1024x4x1024.Idx) :
    View.TileAt (Val := Elt F) (e := .f32) y ![0, k, 0] ![1024, 1, 1024]
      (shapeCast S1024x1x1024 (D k) shapeCasts_S1024x1024_S1024x1x1024) (D (y 1).val (ix2 (y 0) (y 2))) := by
  intro x hx
  have h0 : (y 0).val = 0 + (x 0).val := hx 0
  have h1 : (y 1).val = k + (x 1).val := hx 1
  have h2 : (y 2).val = 0 + (x 2).val := hx 2
  have hl : (x 1).val < 1 := (x 1).isLt
  have hk : (y 1).val = k := by omega
  have hy : (y 0 : Fin 1024) = x 0 := Fin.ext (by omega)
  have hw : (y 2 : Fin 1024) = x 2 := Fin.ext (by omega)
  rw [hk, hy, hw]
  refine shapeCast_apply _ _ x (ix2 (x 0) (x 2)) ?_
  rw [Shape.rowMajor_val_three, Shape.rowMajor_val_two]
  show (x 0).val * 1024 + (x 2).val = ((x 0).val * 1 + (x 1).val) * 1024 + (x 2).val
  omega

section
variable (c : Dev nD) (i : grid0.Coords) (a1 : Memref sig .tc .vmem S1024x32 .f32) (h1 : a1.IsWhole)
  (a2 : Memref sig .tc .vmem S4x1024x32 .f32) (h2 : a2.IsWhole) (a3 : Memref sig .tc .vmem S1024x32 .f32) (h3 : a3.IsWhole)
  (a4 : Memref sig .tc .vmem S1024x32 .f32) (h4 : a4.IsWhole) (a5 : Memref sig .tc .vmem S1x1 .f32) (h5 : a5.IsWhole)
  (a6 : Memref sig .tc .vmem S4x1024 .i32) (h6 : a6.IsWhole) (a7 : Memref sig .tc .vmem S1024x4x1024 .f32) (h7 : a7.IsWhole)
  (x0 : Vec F S1024x32 .f32) (x1 : Vec F S4x1024x32 .f32) (xo : Vec F S1x1 .f32)

theorem out_A_sum (hc : cond0_0 i) :
    out0_A_2 c i a1 h1 a2 h2 a3 h3 a4 h4 a5 h5 a6 h6 a7 h7 hc x0 x1
      = sumAt x0 x1 4 := by
  unfold out0_A_2
  rw [View.read_writes_eq_canon _ _ _ (cover0_A_2 c i a1 h1 a2 h2 a3 h3 a4 h4 a5 h5 a6 h6 a7 h7 hc x0 x1)]
  unfold kernelRun0_A
  dsimp only
  sl_unfold_words
  rw [View.canon_unit_zero hz]
  simp only [View.readAt_eq_ld, h1.read_unread, h2.read_unread, View.ld_unit_zero (S := S1024x32) hz]
  sl_kernel_rfl

theorem out_A_res (hc : cond0_0 i) :
    out0_A_3 c i a1 h1 a2 h2 a3 h3 a4 h4 a5 h5 a6 h6 a7 h7 hc x0 x1
      = resAt x0 x1 4 := by
  unfold out0_A_3
  rw [View.read_writes_eq_canon _ _ _ (cover0_A_3 c i a1 h1 a2 h2 a3 h3 a4 h4 a5 h5 a6 h6 a7 h7 hc x0 x1)]
  unfold kernelRun0_A
  dsimp only
  sl_unfold_words
  rw [View.canon_unit_zero hz]
  simp only [View.readAt_eq_ld, h1.read_unread, h2.read_unread, View.ld_unit_zero (S := S1024x32) hz]
  sl_kernel_rfl

theorem out_A_sq (hc : cond0_0 i) :
    out0_A_4 c i a1 h1 a2 h2 a3 h3 a4 h4 a5 h5 a6 h6 a7 h7 hc x0 x1
      = addf (broadcast S1x1 (Scalar.ofBits .f32 0x00000000#32)) (broadcast S1x1 (sqAt x0 x1 4)) := by
  unfold out0_A_4
  rw [View.read_writes_eq_canon _ _ _ (cover0_A_4 c i a1 h1 a2 h2 a3 h3 a4 h4 a5 h5 a6 h6 a7 h7 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1024x32) hz]
  unfold k0_pay2
  simp only [shapeCast_self]
  sl_kernel_rfl

theorem out_A_near (hc : cond0_0 i) :
    out0_A_5 c i a1 h1 a2 h2 a3 h3 a4 h4 a5 h5 a6 h6 a7 h7 hc x0 x1
      = fun y => nearest (distAt x0 x1 (y 0).val) (ix1 (y 1)) := by
  unfold out0_A_5
  rw [View.read_writes_eq_canon _ _ _ (cover0_A_5 c i a1 h1 a2 h2 a3 h3 a4 h4 a5 h5 a6 h6 a7 h7 hc x0 x1)]
  unfold kernelRun0_A
  dsimp only
  sl_unfold_words
  funext y
  refine View.canon_eq_of_allAt _ y _ (cover0_A_5 c i a1 h1 a2 h2 a3 h3 a4 h4 a5 h5 a6 h6 a7 h7 hc x0 x1 y) ?_
  simp only [View.readAt_eq_ld, h1.read_unread, h2.read_unread, View.ld_unit_zero (S := S1024x32) hz]
  refine View.allAt_cons_unit _ _ _ _ _ ?_ ?_
  · exact row_tile (F := F) (fun n => nearest (distAt x0 x1 n)) 3 y
  refine View.allAt_cons_unit _ _ _ _ _ ?_ ?_
  · exact row_tile (F := F) (fun n => nearest (distAt x0 x1 n)) 2 y
  refine View.allAt_cons_unit _ _ _ _ _ ?_ ?_
  · exact row_tile (F := F) (fun n => nearest (distAt x0 x1 n)) 1 y
  refine View.allAt_cons_unit _ _ _ _ _ ?_ ?_
  · exact row_tile (F := F) (fun n => nearest (distAt x0 x1 n)) 0 y
  exact View.allAt_nil y _

theorem out_A_dist (hc : cond0_0 i) :
    out0_A_6 c i a1 h1 a2 h2 a3 h3 a4 h4 a5 h5 a6 h6 a7 h7 hc x0 x1
      = fun y => distAt x0 x1 (y 1).val (ix2 (y 0) (y 2)) := by
  unfold out0_A_6
  rw [View.read_writes_eq_canon _ _ _ (cover0_A_6 c i a1 h1 a2 h2 a3 h3 a4 h4 a5 h5 a6 h6 a7 h7 hc x0 x1)]
  unfold kernelRun0_A
  dsimp only
  sl_unfold_words
  funext y
  refine View.canon_eq_of_allAt _ y _ (cover0_A_6 c i a1 h1 a2 h2 a3 h3 a4 h4 a5 h5 a6 h6 a7 h7 hc x0 x1 y) ?_
  simp only [View.readAt_eq_ld, h1.read_unread, h2.read_unread, View.ld_unit_zero (S := S1024x32) hz]
  refine View.allAt_cons_unit _ _ _ _ _ ?_ ?_
  · exact plane_tile (distAt x0 x1) 3 y
  refine View.allAt_cons_unit _ _ _ _ _ ?_ ?_
  · exact plane_tile (distAt x0 x1) 2 y
  refine View.allAt_cons_unit _ _ _ _ _ ?_ ?_
  · exact plane_tile (distAt x0 x1) 1 y
  refine View.allAt_cons_unit _ _ _ _ _ ?_ ?_
  · exact plane_tile (distAt x0 x1) 0 y
  exact View.allAt_nil y _

theorem out_B_sum (hc : ¬cond0_0 i) :
    out0_B_2 c i a1 h1 a2 h2 a3 h3 a4 h4 a5 h5 a6 h6 a7 h7 hc x0 x1 xo
      = sumAt x0 x1 4 := by
  unfold out0_B_2
  rw [View.read_writes_eq_canon _ _ _ (cover0_B_2 c i a1 h1 a2 h2 a3 h3 a4 h4 a5 h5 a6 h6 a7 h7 hc x0 x1 xo)]
  unfold kernelRun0_B
  dsimp only
  sl_unfold_words
  rw [View.canon_unit_zero hz]
  simp only [View.readAt_eq_ld, h1.read_unread, h2.read_unread, View.ld_unit_zero (S := S1024x32) hz]
  sl_kernel_rfl

theorem out_B_res (hc : ¬cond0_0 i) :
    out0_B_3 c i a1 h1 a2 h2 a3 h3 a4 h4 a5 h5 a6 h6 a7 h7 hc x0 x1 xo
      = resAt x0 x1 4 := by
  unfold out0_B_3
  rw [View.read_writes_eq_canon _ _ _ (cover0_B_3 c i a1 h1 a2 h2 a3 h3 a4 h4 a5 h5 a6 h6 a7 h7 hc x0 x1 xo)]
  unfold kernelRun0_B
  dsimp only
  sl_unfold_words
  rw [View.canon_unit_zero hz]
  simp only [View.readAt_eq_ld, h1.read_unread, h2.read_unread, View.ld_unit_zero (S := S1024x32) hz]
  sl_kernel_rfl

theorem out_B_sq (hc : ¬cond0_0 i) :
    out0_B_4 c i a1 h1 a2 h2 a3 h3 a4 h4 a5 h5 a6 h6 a7 h7 hc x0 x1 xo
      = addf xo (broadcast S1x1 (sqAt x0 x1 4)) := by
  unfold out0_B_4
  rw [View.read_writes_eq_canon _ _ _ (cover0_B_4 c i a1 h1 a2 h2 a3 h3 a4 h4 a5 h5 a6 h6 a7 h7 hc x0 x1 xo)]
  unfold kernelRun0_B
  dsimp only
  sl_unfold_words
  rw [View.canon_unit_zero hz]
  simp only [View.readAt_eq_ld, h1.read_unread, h2.read_unread, h5.read_unread, View.ld_unit_zero (S := S1x1) hz, View.ld_unit_zero (S := S1024x32) hz]
  unfold k0_pay2
  simp only [shapeCast_self]
  sl_kernel_rfl

theorem out_B_near (hc : ¬cond0_0 i) :
    out0_B_5 c i a1 h1 a2 h2 a3 h3 a4 h4 a5 h5 a6 h6 a7 h7 hc x0 x1 xo
      = fun y => nearest (distAt x0 x1 (y 0).val) (ix1 (y 1)) := by
  unfold out0_B_5
  rw [View.read_writes_eq_canon _ _ _ (cover0_B_5 c i a1 h1 a2 h2 a3 h3 a4 h4 a5 h5 a6 h6 a7 h7 hc x0 x1 xo)]
  unfold kernelRun0_B
  dsimp only
  sl_unfold_words
  funext y
  refine View.canon_eq_of_allAt _ y _ (cover0_B_5 c i a1 h1 a2 h2 a3 h3 a4 h4 a5 h5 a6 h6 a7 h7 hc x0 x1 xo y) ?_
  simp only [View.readAt_eq_ld, h1.read_unread, h2.read_unread, View.ld_unit_zero (S := S1024x32) hz]
  refine View.allAt_cons_unit _ _ _ _ _ ?_ ?_
  · exact row_tile (F := F) (fun n => nearest (distAt x0 x1 n)) 3 y
  refine View.allAt_cons_unit _ _ _ _ _ ?_ ?_
  · exact row_tile (F := F) (fun n => nearest (distAt x0 x1 n)) 2 y
  refine View.allAt_cons_unit _ _ _ _ _ ?_ ?_
  · exact row_tile (F := F) (fun n => nearest (distAt x0 x1 n)) 1 y
  refine View.allAt_cons_unit _ _ _ _ _ ?_ ?_
  · exact row_tile (F := F) (fun n => nearest (distAt x0 x1 n)) 0 y
  exact View.allAt_nil y _

theorem out_B_dist (hc : ¬cond0_0 i) :
    out0_B_6 c i a1 h1 a2 h2 a3 h3 a4 h4 a5 h5 a6 h6 a7 h7 hc x0 x1 xo
      = fun y => distAt x0 x1 (y 1).val (ix2 (y 0) (y 2)) := by
  unfold out0_B_6
  rw [View.read_writes_eq_canon _ _ _ (cover0_B_6 c i a1 h1 a2 h2 a3 h3 a4 h4 a5 h5 a6 h6 a7 h7 hc x0 x1 xo)]
  unfold kernelRun0_B
  dsimp only
  sl_unfold_words
  funext y
  refine View.canon_eq_of_allAt _ y _ (cover0_B_6 c i a1 h1 a2 h2 a3 h3 a4 h4 a5 h5 a6 h6 a7 h7 hc x0 x1 xo y) ?_
  simp only [View.readAt_eq_ld, h1.read_unread, h2.read_unread, View.ld_unit_zero (S := S1024x32) hz]
  refine View.allAt_cons_unit _ _ _ _ _ ?_ ?_
  · exact plane_tile (distAt x0 x1) 3 y
  refine View.allAt_cons_unit _ _ _ _ _ ?_ ?_
  · exact plane_tile (distAt x0 x1) 2 y
  refine View.allAt_cons_unit _ _ _ _ _ ?_ ?_
  · exact plane_tile (distAt x0 x1) 1 y
  refine View.allAt_cons_unit _ _ _ _ _ ?_ ?_
  · exact plane_tile (distAt x0 x1) 0 y
  exact View.allAt_nil y _

end

end Cert.Proof.Ker

end
-- ==== Proof.Spec.lean ====
/-
  The nearest code of a row, as mathematics: the first position of a row's minimum, and the three ways the two
  programs fold their way to it.
-/
module

public import Idealize.ShloMosaic.Lib.ValueIdx
public import Idealize.ShloMosaic.Lib.IdealHost
public import Idealize.ShloMosaic.PureOps.Ideal.Laws

@[expose] public section

noncomputable section

namespace Cert.Proof.Spec

open Idealize.ShloMosaic Idealize.ShloMosaic.ValueIdx
open scoped BigOperators

/-- The index a row's reduction reads. -/
theorem lift_row {a b : ℕ} (h : Shape.Reduces ⟨2, ![a, b]⟩ [1] ⟨1, ![a]⟩) (p : Fin a) (k : Fin b) :
    h.lift (ix1 p) k = ix2 p k := by
  funext c
  match c with
  | ⟨0, _⟩ => rfl
  | ⟨1, _⟩ => rfl

/-- The squared distance of a row to a code, multiplied out. -/
def dist (r e : Fin 32 → EReal) : EReal := (∑ j, r j * r j) + (∑ j, e j * e j) - ∑ j, (r j + r j) * e j

/-- The first position at which a row is least. -/
def IsNear (d : Fin 1024 → EReal) (k : Fin 1024) : Prop :=
  (∀ j, d k ≤ d j) ∧ ∀ j, (∀ l, d j ≤ d l) → k ≤ j

theorem IsNear.unique {d : Fin 1024 → EReal} {k l : Fin 1024} (hk : IsNear d k) (hl : IsNear d l) : k = l :=
  le_antisymm (hk.2 l hl.1) (hl.2 k hk.1)

theorem exists_isNear (d : Fin 1024 → EReal) : ∃ k, IsNear d k := by
  classical
  obtain ⟨k, hk⟩ := Finite.exists_min d
  have hne : (Finset.univ.filter fun j => ∀ l, d j ≤ d l).Nonempty := ⟨k, by simpa using hk⟩
  refine ⟨Finset.min' _ hne, ?_, fun j hj => Finset.min'_le _ _ (by simpa using hj)⟩
  simpa using Finset.min'_mem _ hne

/-! ## The minimum and the least matching position, one fold each -/

theorem fold_min {d : Fin 1024 → EReal} {k : Fin 1024} (hk : IsNear d k) :
    (Finset.univ : Finset (Fin 1024)).fold min ⊤ d = d k := by
  apply le_antisymm
  · exact Finset.fold_min_le (b := (⊤ : EReal)) (d k) |>.mpr (Or.inr ⟨k, Finset.mem_univ _, le_rfl⟩)
  · exact (Finset.le_fold_min (d k)).mpr ⟨le_top, fun j _ => hk.1 j⟩

theorem minsi_ofNat {a b : ℕ} (ha : a < 2 ^ 31) (hb : b < 2 ^ 31) :
    IntOp.minsi (BitVec.ofNat 32 a) (BitVec.ofNat 32 b) = BitVec.ofNat 32 (min a b) := by
  have e : ∀ n : ℕ, n < 2 ^ 31 → (BitVec.ofNat 32 n).toInt = n := fun n hn => by
    rw [BitVec.toInt_eq_toNat_of_lt] <;> simp only [BitVec.toNat_ofNat] <;> omega
  unfold IntOp.minsi BitVec.slt
  rw [e a ha, e b hb]
  by_cases h : a < b
  · simp [h, Nat.min_eq_left (le_of_lt h)]
  · simp [h, Nat.min_eq_right (Nat.le_of_not_lt h)]

theorem fold_minsi (g : Fin 1024 → ℕ) (hg : ∀ k, g k < 2 ^ 31) (a : ℕ) (ha : a < 2 ^ 31) (S : Finset (Fin 1024)) :
    S.fold IntOp.minsi (BitVec.ofNat 32 a) (fun k => BitVec.ofNat 32 (g k)) = BitVec.ofNat 32 (S.fold min a g) := by
  classical
  induction S using Finset.induction_on with
  | empty => rfl
  | insert k S hk ih =>
    rw [Finset.fold_insert hk, Finset.fold_insert hk, ih, minsi_ofNat (hg k)]
    exact lt_of_le_of_lt ((Finset.fold_min_le a).mpr (Or.inl le_rfl)) ha

/-- Positions where a row differs from its minimum are replaced by one past the last. -/
theorem fold_where {d : Fin 1024 → EReal} {k : Fin 1024} (hk : IsNear d k) :
    (Finset.univ : Finset (Fin 1024)).fold IntOp.minsi (BitVec.ofNat 32 2147483647)
        (fun j => BitVec.ofNat 32 (if d j = d k then j.val else 1024))
      = BitVec.ofNat 32 k.val := by
  rw [fold_minsi (fun j => if d j = d k then j.val else 1024) (fun j => by have := j.isLt; split <;> omega) _
    (by norm_num)]
  congr 1
  apply le_antisymm
  · exact (Finset.fold_min_le _).mpr (Or.inr ⟨k, Finset.mem_univ _, by simp⟩)
  · refine (Finset.le_fold_min _).mpr ⟨by have := k.isLt; omega, fun j _ => ?_⟩
    by_cases h : d j = d k
    · rw [if_pos h]; exact hk.2 j fun l => h ▸ hk.1 l
    · rw [if_neg h]; exact le_of_lt k.isLt

/-! ## The pairwise fold -/

/-- The better of two candidates: the smaller value, of equal values the smaller position. -/
def better (a b : EReal × BitVec 32) : EReal × BitVec 32 :=
  (if a.1 < b.1 then a.1 else b.1, if a.1 < b.1 ∨ a.1 = b.1 ∧ a.2.slt b.2 then a.2 else b.2)

theorem slt_ofNat {a b : ℕ} (ha : a < 2 ^ 31) (hb : b < 2 ^ 31) :
    (BitVec.ofNat 32 a).slt (BitVec.ofNat 32 b) = true ↔ a < b := by
  have e : ∀ n : ℕ, n < 2 ^ 31 → (BitVec.ofNat 32 n).toInt = n := fun n hn => by
    rw [BitVec.toInt_eq_toNat_of_lt] <;> simp only [BitVec.toNat_ofNat] <;> omega
  unfold BitVec.slt
  rw [e a ha, e b hb]
  simp

/-- A candidate at least as good as everything in `S`. -/
def Best (d : Fin 1024 → EReal) (S : Fin 1024 → Prop) (r : EReal × BitVec 32) : Prop :=
  (∀ k, S k → r.1 ≤ d k) ∧ ∃ n : Fin 1024, r.2 = BitVec.ofNat 32 n.val ∧ (∀ k, S k → d k = r.1 → n ≤ k)
    ∧ (r.1 = d n ∨ r.1 = ⊤ ∧ n = 0)

theorem Best.step {d : Fin 1024 → EReal} {S : Fin 1024 → Prop} {r : EReal × BitVec 32} (h : Best d S r) (k : Fin 1024) :
    Best d (fun j => S j ∨ j = k) (better r (d k, BitVec.ofNat 32 k.val)) := by
  obtain ⟨v, w⟩ := r
  obtain ⟨h1, n, rfl, h2, h3⟩ := h
  dsimp only at h1 h2 h3
  have hslt : (BitVec.ofNat 32 n.val).slt (BitVec.ofNat 32 k.val) = true ↔ n < k :=
    slt_ofNat (by have := n.isLt; omega) (by have := k.isLt; omega)
  unfold better Best
  dsimp only
  rcases lt_trichotomy v (d k) with hv | hv | hv
  · rw [if_pos hv, if_pos (Or.inl hv)]
    refine ⟨?_, n, rfl, ?_, h3⟩
    · rintro j (hj | rfl)
      · exact h1 j hj
      · exact hv.le
    · rintro j (hj | rfl) he
      · exact h2 j hj he
      · exact absurd he hv.ne'
  · rw [if_neg (by rw [hv]; exact lt_irrefl _)]
    by_cases hn : n < k
    · rw [if_pos (Or.inr ⟨hv, hslt.mpr hn⟩)]
      refine ⟨?_, n, rfl, ?_, hv ▸ h3⟩
      · rintro j (hj | rfl)
        · exact hv ▸ h1 j hj
        · exact le_rfl
      · rintro j (hj | rfl) he
        · exact h2 j hj (he.trans hv.symm)
        · exact hn.le
    · rw [if_neg (by rintro (h | ⟨-, h⟩)
                     · exact absurd hv h.ne
                     · exact hn (hslt.mp h))]
      refine ⟨?_, k, rfl, ?_, Or.inl rfl⟩
      · rintro j (hj | rfl)
        · exact hv ▸ h1 j hj
        · exact le_rfl
      · rintro j (hj | rfl) he
        · exact (le_of_not_gt hn).trans (h2 j hj (he.trans hv.symm))
        · exact le_rfl
  · rw [if_neg (not_lt.mpr hv.le), if_neg (by rintro (h | ⟨h, -⟩)
                                              · exact absurd h (not_lt.mpr hv.le)
                                              · exact absurd h hv.ne')]
    refine ⟨?_, k, rfl, ?_, Or.inl rfl⟩
    · rintro j (hj | rfl)
      · exact hv.le.trans (h1 j hj)
      · exact le_rfl
    · rintro j (hj | rfl) he
      · exact absurd (h1 j hj) (not_le.mpr (he ▸ hv))
      · exact le_rfl

theorem Best.foldl {ι : Type} {d : Fin 1024 → EReal} (g : ι → Fin 1024) (L : List ι) {S : Fin 1024 → Prop}
    {r : EReal × BitVec 32} (h : Best d S r) :
    Best d (fun j => S j ∨ ∃ i ∈ L, j = g i)
      (L.foldl (fun r i => better r (d (g i), BitVec.ofNat 32 (g i).val)) r) := by
  induction L generalizing S r with
  | nil => simpa using h
  | cons i L ih =>
    have := ih (h.step (g i))
    rw [List.foldl_cons]
    convert this using 2 with j
    simp only [List.mem_cons, exists_eq_or_imp, or_assoc]

/-- Folded over every position, in whatever order, the best candidate is the first minimum. -/
theorem foldl_better {ι : Type} {d : Fin 1024 → EReal} {k : Fin 1024} (hk : IsNear d k) (g : ι → Fin 1024) (L : List ι)
    (hL : ∀ j, ∃ i ∈ L, j = g i) :
    (L.foldl (fun r i => better r (d (g i), BitVec.ofNat 32 (g i).val)) (⊤, 0#32)).2 = BitVec.ofNat 32 k.val := by
  have h0 : Best d (fun _ => False) (⊤, 0#32) := ⟨fun _ h => h.elim, 0, rfl, fun _ h => h.elim, Or.inr ⟨rfl, rfl⟩⟩
  obtain ⟨h1, n, hn, h2, h3⟩ := h0.foldl g L
  rw [hn]
  have hall : ∀ j, False ∨ ∃ i ∈ L, j = g i := fun j => Or.inr (hL j)
  have hv := h1 n (hall n)
  have hd : d n = (L.foldl (fun r i => better r (d (g i), BitVec.ofNat 32 (g i).val)) (⊤, 0#32)).1 := by
    rcases h3 with h3 | ⟨h3, -⟩
    · exact h3.symm
    · rw [h3] at hv ⊢; exact le_antisymm le_top hv
  have : IsNear d n := ⟨fun j => hd ▸ h1 j (hall j), fun j hj => h2 j (hall j) (le_antisymm (hd ▸ hj n) (h1 j (hall j)))⟩
  rw [this.unique hk]

end Cert.Proof.Spec

end
-- ==== Proof.KerLevel.lean ====
/-
  The kernel's level on the extended reals, row by row: the distances multiplied out, the first minimum of a row,
  and the code at an index read back exactly from a finite codebook.
-/
module

public import proofs.«01_k».proof.Proof.KerBlock
public import proofs.«01_k».proof.Proof.Spec
public import Idealize.ShloMosaic.Lib.MatmulPlain

@[expose] public section

noncomputable section

namespace Cert.Proof.Ker

open Cert.KernelIdeal Cert.KernelIdeal.Gen Idealize.ShloMosaic Idealize.ShloMosaic.ValueIdx
open scoped BigOperators

/-- A column spread over the columns of a matrix. -/
theorem column_apply {α : Type} (v : S1024.Idx → α) (p q : Fin 1024) :
    broadcastTo S1024x1024 (shapeCast S1024x1 v shapeCasts_S1024_S1024x1) broadcasts_S1024x1_S1024x1024 (ix2 p q)
      = v (ix1 p) :=
  (broadcastTo_apply _ _ (ix2 p q) (ix2 p (0 : Fin 1)) fun a => match a with
    | ⟨0, _⟩ => rfl
    | ⟨1, _⟩ => rfl).trans (shapeCast_a_a1_apply v _ p 0)

/-- A row spread over the rows of a matrix. -/
theorem row_apply {α : Type} (v : S1024.Idx → α) (p q : Fin 1024) :
    broadcastTo S1024x1024 (shapeCast S1x1024 v shapeCasts_S1024_S1x1024) broadcasts_S1x1024_S1024x1024 (ix2 p q)
      = v (ix1 q) :=
  (broadcastTo_1b_ab_apply _ _ p q).trans (shapeCast_a_1a_apply v _ 0 q)

theorem sumSq_apply (r : Blk Ideal) (p : Fin 1024) :
    multiReduction .add [1] S1024 (mulf r r) 0x00000000#32 reduces_S1024x32_S1024 (.inl rfl) rfl (ix1 p)
      = ∑ j : Fin 32, r (ix2 p j) * r (ix2 p j) := by
  refine (Ideal.multiReduction_add_single (mulf r r) 0x00000000#32 reduces_S1024x32_S1024 (.inl rfl) rfl (ix1 p)).trans ?_
  refine Finset.sum_congr rfl fun k _ => ?_
  exact congrArg (mulf r r) (Spec.lift_row reduces_S1024x32_S1024 p k)

theorem dists_apply (e r : Blk Ideal) (p q : Fin 1024) :
    dists e r (ix2 p q) = Spec.dist (fun j => r (ix2 p j)) (fun j => e (ix2 q j)) := by
  unfold dists Spec.dist
  rw [subf_apply, addf_apply, column_apply, row_apply, sumSq_apply, sumSq_apply]
  congr 1
  refine (Ideal.matmul_transposedRhs_apply none (addf r r) e (constant S1024x1024 .f32 0x00000000#32) p q).trans ?_
  rw [constant_apply, Ideal.ofBits_zero_f32, zero_add]
  simp only [addf_apply]

theorem cols_apply (p q : Fin 1024) : cols (ix2 p q) = BitVec.ofNat 32 q.val := by
  unfold cols
  rw [iota_single_apply]

theorem select_oeq {α : Type} (x y : EReal) (a b : α) :
    Scalar.select (FloatOps.cmpf (F := Ideal) (φ := .f32) .oeq x y) a b = if x = y then a else b := by
  rw [Ideal.cmpf_def]
  unfold Scalar.select Ideal.cmp
  by_cases h : x = y <;> simp [h]

theorem inf_f32 : Ideal.ofBits .f32 0x7F800000#32 = ⊤ := by simp [Ideal.ofBits, Ideal.ieee]

theorem rowMin_apply (d : FVec Ideal S1024x1024 .f32) (p k : Fin 1024) (hk : Spec.IsNear (fun j => d (ix2 p j)) k) :
    multiReduction .minimumf [1] S1024 d 0x7F800000#32 reduces_S1024x1024_S1024 (.inl rfl) rfl (ix1 p)
      = d (ix2 p k) := by
  refine (multiReduction_minimumf_eq_fold d 0x7F800000#32 reduces_S1024x1024_S1024 (.inl rfl) rfl (ix1 p)).trans ?_
  rw [Shape.Reduces.fold_filter_drop_single]
  refine Eq.trans ?_ (Spec.fold_min hk)
  show Finset.fold min (Ideal.ofBits .f32 0x7F800000#32) _ _ = _
  rw [inf_f32]
  exact congrArg (fun f => Finset.fold min (⊤ : EReal) f (Finset.univ : Finset (Fin 1024)))
    (funext fun j => congrArg d (Spec.lift_row reduces_S1024x1024_S1024 p j))

theorem where_apply (d : FVec Ideal S1024x1024 .f32) (v : FVec Ideal S1024 .f32) (p j : Fin 1024) :
    select (cmpf .oeq d (broadcastTo S1024x1024 (shapeCast S1024x1 v shapeCasts_S1024_S1024x1)
        broadcasts_S1024x1_S1024x1024)) cols (broadcast S1024x1024 1024#32) (ix2 p j)
      = BitVec.ofNat 32 (if d (ix2 p j) = v (ix1 p) then j.val else 1024) := by
  rw [select_apply, cmpf_apply, column_apply, select_oeq, cols_apply, broadcast_apply]
  by_cases h : d (ix2 p j) = v (ix1 p) <;> simp [h]

theorem nearest_apply (d : FVec Ideal S1024x1024 .f32) (p k : Fin 1024) (hk : Spec.IsNear (fun j => d (ix2 p j)) k) :
    nearest d (ix1 p) = BitVec.ofNat 32 k.val := by
  unfold nearest
  refine (multiReductionI_eq_fold .minsi _ 2147483647#32 reduces_S1024x1024_S1024 rfl (ix1 p)).trans ?_
  rw [Shape.Reduces.fold_filter_drop_single]
  refine Eq.trans ?_ (Spec.fold_where hk)
  refine congrArg (fun f => Finset.fold IntOp.minsi (BitVec.ofNat 32 2147483647) f (Finset.univ : Finset (Fin 1024)))
    (funext fun j => ?_)
  refine (congrArg _ (Spec.lift_row reduces_S1024x1024_S1024 p j)).trans ?_
  exact (where_apply d _ p j).trans (by rw [rowMin_apply d p k hk])

/-! ## The code at an index -/

theorem marks_apply (i : IVec S1024 32) (p k q : Fin 1024) (hi : i (ix1 p) = BitVec.ofNat 32 q.val) :
    marks (F := Ideal) i (ix2 p k) = if k = q then 1 else 0 := by
  unfold marks
  rw [sitofp_apply, extui_apply]
  show (((BitVec.setWidth 32 (IntOp.cmpi .eq (cols (ix2 p k)) (broadcastTo S1024x1024
    (shapeCast S1024x1 i shapeCasts_S1024_S1024x1) broadcasts_S1024x1_S1024x1024 (ix2 p k)))).toInt : ℝ) : EReal) = _
  rw [column_apply, cols_apply, hi]
  by_cases h : k = q
  · subst h
    simp [IntOp.cmpi]
  · have hne : (BitVec.ofNat 32 k.val == BitVec.ofNat 32 q.val) = false := by
      rw [beq_eq_false_iff_ne]
      intro he
      have := congrArg BitVec.toNat he
      simp only [BitVec.toNat_ofNat] at this
      have h1 := k.isLt
      have h2 := q.isLt
      exact h (Fin.ext (by omega))
    simp [IntOp.cmpi, hne, h]

theorem picked_apply (e : Blk Ideal) (i : IVec S1024 32) (p q : Fin 1024) (c : Fin 64)
    (hi : i (ix1 p) = BitVec.ofNat 32 q.val) : picked e i (ix2 p c) = halves e (ix2 q c) := by
  unfold picked
  refine (Ideal.matmul_plain_apply none (truncf .bf16 (marks (F := Ideal) i) bitsLt_bf16_f32) (halves e)
    (constant S1024x64 .f32 0x00000000#32) p c).trans ?_
  rw [constant_apply, Ideal.ofBits_zero_f32, zero_add, Finset.sum_eq_single q]
  · rw [truncf_apply, marks_apply i p q q hi, if_pos rfl, one_mul]
  · intro k _ hk
    rw [truncf_apply, marks_apply i p k q hi, if_neg hk, zero_mul]
  · intro h
    exact absurd (Finset.mem_univ q) h

theorem halves_left (e : Blk Ideal) (q : Fin 1024) (j : Fin 32) (c : Fin 64) (hc : c.val = 0 + j.val) :
    halves e (ix2 q c) = e (ix2 q j) := by
  unfold halves
  exact concatenate_pair_apply_left (s₁ := S1024x32) (s₂ := S1024x32) (1 : Fin 2) _ _ _ (ix2 q c) rfl (ix2 q j) fun b => match b with
    | ⟨0, _⟩ => rfl
    | ⟨1, _⟩ => by show j.val = c.val; omega

theorem halves_right (e : Blk Ideal) (q : Fin 1024) (j : Fin 32) (c : Fin 64) (hc : c.val = 32 + j.val) :
    halves e (ix2 q c) = e (ix2 q j) - e (ix2 q j) := by
  unfold halves
  exact concatenate_pair_apply_right (s₁ := S1024x32) (s₂ := S1024x32) (1 : Fin 2) _ _ _ (ix2 q c) rfl rfl (ix2 q j) (fun b hb => match b with
    | ⟨0, _⟩ => rfl
    | ⟨1, _⟩ => absurd rfl hb) (by show j.val + 32 = c.val; omega)

/-- From a finite codebook the code comes back exactly: what its half-width copy misses is added again. -/
theorem lookup_apply (e : Blk Ideal) (he : ∀ j, e j ≠ ⊤ ∧ e j ≠ ⊥) (i : IVec S1024 32) (p q : Fin 1024)
    (hi : i (ix1 p) = BitVec.ofNat 32 q.val) (j : Fin 32) : lookup e i (ix2 p j) = e (ix2 q j) := by
  unfold lookup
  rw [addf_apply, slice2_axis1_eq, slice2_axis1_eq, picked_apply e i p q _ hi, picked_apply e i p q _ hi,
    halves_left e q j _ rfl, halves_right e q j _ rfl, EReal.sub_self (he _).1 (he _).2, add_zero]

/-! ## The codebook of a level and the sum of squares -/

theorem book_apply (l : Fin 4) (c : Vec Ideal S4x1024x32 .f32) (p : Fin 1024) (j : Fin 32) :
    book l c (ix2 p j) = c (ix3 l p j) := by
  unfold book
  rw [shapeCast_1ab_ab_apply]
  rw [View.ld_apply]
  refine congrArg c (funext fun a => Fin.ext ?_)
  match a with
  | ⟨0, _⟩ => show l.val + 1 * 0 = l.val; omega
  | ⟨1, _⟩ => show 0 + 1 * p.val = p.val; omega
  | ⟨2, _⟩ => show 0 + 1 * j.val = j.val; omega

theorem sqSum_apply (r q : Blk Ideal) :
    sqSum r q = ∑ p : Fin 1024, ∑ j : Fin 32, (r (ix2 p j) - q (ix2 p j)) * (r (ix2 p j) - q (ix2 p j)) := by
  unfold sqSum
  refine (Ideal.multiReduction_add_total _ 0x00000000#32 reduces_S1x1024x32_S1 (fun b => match b with | ⟨0, _⟩ => rfl)
    (.inl rfl) rfl _).trans ?_
  refine (Equiv.sum_comp (Shape.reshapeEquiv shapeCasts_S1024x32_S1x1024x32) (mulf (subf r q) (subf r q))).trans ?_
  rw [sum_idx2]
  rfl

end Cert.Proof.Ker

end
-- ==== Proof.KerArray.lean ====
/-
  The kernel's arrays after the run: each block of 1024 rows holds the four levels' results for these rows, and the
  loss cell the sum over the sixteen blocks.
-/
module

public import proofs.«01_k».proof.Proof.KerBlock
public import proofs.«01_k».proof.Proof.Gen.KernelIdeal.Frame
public import Idealize.ShloMosaic.Lib.StableHlo.Run
public import Idealize.ShloMosaic.Lib.Pipeline.FrameSuffix

@[expose] public section

noncomputable section

namespace Cert.Proof.Ker

open Cert.KernelIdeal Cert.KernelIdeal.Gen Idealize.ShloMosaic Idealize.ShloMosaic.TcCoe Idealize.ShloMosaic.ValueIdx
open Idealize.SL.Sem

variable {F : FTy → Type} [FloatOps F]

/-! ## Blocks of rows -/

/-- Rows `1024 n` to `1024 n + 1023`. -/
def rows (x : FVec F S16384x32 .f32) (n : ℕ) : Blk F := fun j => x (ix2 (Fin.ofNat 16384 (1024 * n + (j 0).val)) (j 1))

/-- A row's place in its block. -/
abbrev inBlk (i : ℕ) : Fin 1024 := Fin.ofNat 1024 i

/-- The loss cell after block `n`. -/
def acc (x : FVec F S16384x32 .f32) (c : Vec F S4x1024x32 .f32) : ℕ → Vec F S1x1 .f32
  | 0 => addf (broadcast S1x1 (Scalar.ofBits .f32 0x00000000#32)) (broadcast S1x1 (sqAt (rows x 0) c 4))
  | n + 1 => addf (acc x c n) (broadcast S1x1 (sqAt (rows x (n + 1)) c 4))

/-- The quantized sums of all rows. -/
def sums (x : FVec F S16384x32 .f32) (c : Vec F S4x1024x32 .f32) : FVec F S16384x32 .f32 :=
  fun i => sumAt (rows x ((i 0).val / 1024)) c 4 (ix2 (inBlk (i 0).val) (i 1))

/-- The residuals of all rows. -/
def residuals (x : FVec F S16384x32 .f32) (c : Vec F S4x1024x32 .f32) : FVec F S16384x32 .f32 :=
  fun i => resAt (rows x ((i 0).val / 1024)) c 4 (ix2 (inBlk (i 0).val) (i 1))

/-- Level `l`'s nearest code to row `k` of block `n`. -/
def nearAt (x : FVec F S16384x32 .f32) (c : Vec F S4x1024x32 .f32) (n l : ℕ) (k : Fin 1024) : BitVec 32 :=
  nearest (distAt (rows x n) c l) (ix1 k)

/-- The nearest codes of all rows, by level. -/
def nearests (x : FVec F S16384x32 .f32) (c : Vec F S4x1024x32 .f32) : IVec S4x16384 32 :=
  fun i => nearAt x c ((i 1).val / 1024) (i 0).val (inBlk (i 1).val)

/-- The distances of all rows, by level. -/
def distances (x : FVec F S16384x32 .f32) (c : Vec F S4x1024x32 .f32) : FVec F S16384x4x1024 .f32 :=
  fun i => distAt (rows x ((i 0).val / 1024)) c (i 1).val (ix2 (inBlk (i 0).val) (i 2))

variable (m : (ℓ : Loc nD τ sig) → Buf (Elt F) ℓ)

/-- The first argument. -/
abbrev X (c : Dev nD) : FVec F S16384x32 .f32 := m ((c : Thread nD τ).loc main_arg0)
/-- The second argument. -/
abbrev C (c : Dev nD) : Vec F S4x1024x32 .f32 := m ((c : Thread nD τ).loc main_arg1)

theorem lt_N (t : Fin cfg0.N) : t.val < 16 := lt_of_lt_of_eq t.isLt N_0

theorem index_0 (t : Fin cfg0.N) : win0_0.index t 0 = t.val ∧ win0_0.index t 1 = 0 :=
  (by decide +kernel : ∀ t : Fin grid0.N, win0_0.index t 0 = t.val ∧ win0_0.index t 1 = 0) t
theorem index_1 (t : Fin cfg0.N) : win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0) t
theorem index_2 (t : Fin cfg0.N) : win0_2.index t 0 = t.val ∧ win0_2.index t 1 = 0 :=
  (by decide +kernel : ∀ t : Fin grid0.N, win0_2.index t 0 = t.val ∧ win0_2.index t 1 = 0) t
theorem index_3 (t : Fin cfg0.N) : win0_3.index t 0 = t.val ∧ win0_3.index t 1 = 0 :=
  (by decide +kernel : ∀ t : Fin grid0.N, win0_3.index t 0 = t.val ∧ win0_3.index t 1 = 0) t
theorem index_5 (t : Fin cfg0.N) : win0_5.index t 0 = 0 ∧ win0_5.index t 1 = t.val :=
  (by decide +kernel : ∀ t : Fin grid0.N, win0_5.index t 0 = 0 ∧ win0_5.index t 1 = t.val) t
theorem index_6 (t : Fin cfg0.N) : win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0) t

/-- The block of the first argument at a point. -/
theorem iblk_rows (c : Dev nD) (t : Fin cfg0.N) : (iblk m c 0 t : Vec F S1024x32 .f32) = rows (X m c) t.val := by
  have hi := index_0 t
  have ht := lt_N t
  funext j
  have hj : (j 0).val < 1024 := (j 0).isLt
  unfold iblk rows
  rw [View.read_apply]
  show V m c main_arg0 _ = m (c.tc.loc main_arg0) _
  unfold V
  congr 1
  funext a
  apply Fin.ext
  match a with
  | ⟨0, _⟩ =>
    show win0_0.index t 0 * 1024 + 1 * (j 0).val = (1024 * t.val + (j 0).val) % 16384
    rw [hi.1, Nat.mod_eq_of_lt (by omega)]; omega
  | ⟨1, _⟩ => show win0_0.index t 1 * 32 + 1 * (j 1).val = (j 1).val; rw [hi.2]; omega

/-- The codebooks are staged whole. -/
theorem iblk_books (c : Dev nD) (t : Fin cfg0.N) : (iblk m c 1 t : Vec F S4x1024x32 .f32) = C m c := by
  have hi := index_1 t
  funext j
  unfold iblk
  rw [View.read_apply]
  show V m c main_arg1 _ = m (c.tc.loc main_arg1) _
  unfold V
  congr 1
  funext a
  apply Fin.ext
  match a with
  | ⟨0, _⟩ => show win0_1.index t 0 * 4 + 1 * (j 0).val = (j 0).val; rw [hi.1]; omega
  | ⟨1, _⟩ => show win0_1.index t 1 * 1024 + 1 * (j 1).val = (j 1).val; rw [hi.2.1]; omega
  | ⟨2, _⟩ => show win0_1.index t 2 * 32 + 1 * (j 2).val = (j 2).val; rw [hi.2.2]; omega

/-- What the outputs' buffers hold after a point. -/
theorem outs_eq (c : Dev nD) : ∀ (n : ℕ) (h : n < cfg0.N), outsAt0 m c n h
    = (sumAt (rows (X m c) n) (C m c) 4, resAt (rows (X m c) n) (C m c) 4, acc (X m c) (C m c) n,
      (fun y => nearAt (X m c) (C m c) n (y 0).val (y 1)),
      (fun y => distAt (rows (X m c) n) (C m c) (y 1).val (ix2 (y 0) (y 2))))
  | 0, h => by
    rw [show outsAt0 m c 0 h = _ from outsAt0_A m c ⟨0, h⟩ rfl, out_A_sum, out_A_res, out_A_sq, out_A_near, out_A_dist,
      iblk_rows, iblk_books]
    rfl
  | n + 1, h => by
    have hN := lt_N ⟨n + 1, h⟩
    have hB : ¬(⟨n + 1, h⟩ : Fin cfg0.N).val % 16 = 0 := by dsimp only at hN ⊢; omega
    rw [show outsAt0 m c (n + 1) h = _ from outsAt0_B m c ⟨n + 1, h⟩ hB, out_B_sum, out_B_res, out_B_sq, out_B_near,
      out_B_dist, iblk_rows, iblk_books]
    show (_, _, addf (outsAt0 m c n _).2.2.1 _, _, _) = _
    rw [outs_eq c n]
    rfl

/-! ## The arrays -/

/-- A function of a block and a place in it, read at a row that is that place of that block. -/
theorem at_row {α : Type} (f : ℕ → Fin 1024 → α) {i n j : ℕ} (h : i = n * 1024 + 1 * j) (hj : j < 1024) :
    f (i / 1024) (inBlk i) = f n ⟨j, hj⟩ := by
  have h1 : i / 1024 = n := by omega
  have h2 : inBlk i = ⟨j, hj⟩ := Fin.ext (by show i % 1024 = j; omega)
  rw [h1, h2]

/-- The point whose block holds row `i`. -/
def pointOf (i : ℕ) (h : i < 16384) : Fin cfg0.N := ⟨i / 1024, by rw [show cfg0.N = 16 from N_0]; omega⟩

theorem sums_eq (c : Dev nD) : (dats m 0 c).arrAt 2 cfg0.N = sums (X m c) (C m c) := by
  refine (dats m 0 c).arrAt_eq_of_cover 2 (sums (X m c) (C m c)) (fun t _ => ?_) fun i => ?_
  · have hi := index_2 t
    show (cfg0.win 2).cut (grid0.coords t) ((dats m 0 c).after 2 t) = _
    rw [after0_2, outs_eq]
    funext j
    have h1 : win0_2.index t 1 * 32 + 1 * (j 1).val = (j 1).val := by rw [hi.2]; omega
    rw [View.read_apply]
    refine Eq.trans ?_ (at_row (fun n k => sumAt (rows (X m c) n) (C m c) 4
      (ix2 k (⟨win0_2.index t 1 * 32 + 1 * (j 1).val, lt_of_eq_of_lt h1 (j 1).isLt⟩ : Fin 32)))
      (show win0_2.index t 0 * 1024 + 1 * (j 0).val = t.val * 1024 + 1 * (j 0).val by rw [hi.1]) (j 0).isLt).symm
    exact congrArg (sumAt (rows (X m c) t.val) (C m c) 4) (funext fun a => match a with
      | ⟨0, _⟩ => rfl
      | ⟨1, _⟩ => Fin.ext h1.symm)
  · have h0 : (i 0 : Nat) < 16384 := (i 0).isLt
    have h1 : (i 1 : Nat) < 32 := (i 1).isLt
    have hi := index_2 (pointOf (i 0) h0)
    have hp : (pointOf (i 0) h0).val = (i 0 : Nat) / 1024 := rfl
    refine ⟨pointOf (i 0) h0, flush0_2 _, ?_⟩
    show i ∈ ((View.whole main_v0_0).slice (win0_2.rect (pointOf (i 0) h0))).set
    rw [View.set_slice_whole, Rect.mem_set_unit]
    intro a
    match a with
    | ⟨0, _⟩ =>
      show win0_2.index (pointOf (i 0) h0) 0 * 1024 ≤ (i 0 : Nat) ∧ (i 0 : Nat) < win0_2.index (pointOf (i 0) h0) 0 * 1024 + 1024
      rw [hi.1, hp]; omega
    | ⟨1, _⟩ =>
      show win0_2.index (pointOf (i 0) h0) 1 * 32 ≤ (i 1 : Nat) ∧ (i 1 : Nat) < win0_2.index (pointOf (i 0) h0) 1 * 32 + 32
      rw [hi.2]; omega

theorem residuals_eq (c : Dev nD) : (dats m 0 c).arrAt 3 cfg0.N = residuals (X m c) (C m c) := by
  refine (dats m 0 c).arrAt_eq_of_cover 3 (residuals (X m c) (C m c)) (fun t _ => ?_) fun i => ?_
  · have hi := index_3 t
    show (cfg0.win 3).cut (grid0.coords t) ((dats m 0 c).after 3 t) = _
    rw [after0_3, outs_eq]
    funext j
    have h1 : win0_3.index t 1 * 32 + 1 * (j 1).val = (j 1).val := by rw [hi.2]; omega
    rw [View.read_apply]
    refine Eq.trans ?_ (at_row (fun n k => resAt (rows (X m c) n) (C m c) 4
      (ix2 k (⟨win0_3.index t 1 * 32 + 1 * (j 1).val, lt_of_eq_of_lt h1 (j 1).isLt⟩ : Fin 32)))
      (show win0_3.index t 0 * 1024 + 1 * (j 0).val = t.val * 1024 + 1 * (j 0).val by rw [hi.1]) (j 0).isLt).symm
    exact congrArg (resAt (rows (X m c) t.val) (C m c) 4) (funext fun a => match a with
      | ⟨0, _⟩ => rfl
      | ⟨1, _⟩ => Fin.ext h1.symm)
  · have h0 : (i 0 : Nat) < 16384 := (i 0).isLt
    have h1 : (i 1 : Nat) < 32 := (i 1).isLt
    have hi := index_3 (pointOf (i 0) h0)
    have hp : (pointOf (i 0) h0).val = (i 0 : Nat) / 1024 := rfl
    refine ⟨pointOf (i 0) h0, flush0_3 _, ?_⟩
    show i ∈ ((View.whole main_v0_1).slice (win0_3.rect (pointOf (i 0) h0))).set
    rw [View.set_slice_whole, Rect.mem_set_unit]
    intro a
    match a with
    | ⟨0, _⟩ =>
      show win0_3.index (pointOf (i 0) h0) 0 * 1024 ≤ (i 0 : Nat) ∧ (i 0 : Nat) < win0_3.index (pointOf (i 0) h0) 0 * 1024 + 1024
      rw [hi.1, hp]; omega
    | ⟨1, _⟩ =>
      show win0_3.index (pointOf (i 0) h0) 1 * 32 ≤ (i 1 : Nat) ∧ (i 1 : Nat) < win0_3.index (pointOf (i 0) h0) 1 * 32 + 32
      rw [hi.2]; omega

/-- A function of a block, a level and a place in the block, written back by block. -/
theorem near_block (f : ℕ → ℕ → Fin 1024 → BitVec 32) (t : Fin cfg0.N) (Z : Vec F S4x1024 .i32)
    (hZ : ∀ (l : Fin 4) (k : Fin 1024), Z (ix2 l k) = f t.val l.val k) :
    (cfg0.win 5).cut (grid0.coords t) Z = ((cfg0.win 5).blk t).view.read (Elt F)
      (fun i : S4x16384.Idx => f ((i 1).val / 1024) (i 0).val (inBlk (i 1).val) : IVec S4x16384 32) := by
  have hi := index_5 t
  funext j
  have h1 : win0_5.index t 0 * 4 + 1 * (j 0).val = (j 0).val := by rw [hi.1]; omega
  have key := at_row (fun n k => f n (win0_5.index t 0 * 4 + 1 * (j 0).val) k)
    (show win0_5.index t 1 * 1024 + 1 * (j 1).val = t.val * 1024 + 1 * (j 1).val by rw [hi.2]) (j 1).isLt
  rw [View.read_apply]
  refine Eq.trans ?_ key.symm
  dsimp only
  rw [h1]
  refine Eq.trans ?_ (hZ (j 0) (j 1))
  exact congrArg Z (eq_ix2 _)

theorem nearests_eq (c : Dev nD) : (dats m 0 c).arrAt 5 cfg0.N = nearests (X m c) (C m c) := by
  refine (dats m 0 c).arrAt_eq_of_cover 5 (nearests (X m c) (C m c)) (fun t _ => ?_) fun i => ?_
  · show (cfg0.win 5).cut (grid0.coords t) ((dats m 0 c).after 5 t) = _
    rw [after0_5, outs_eq]
    unfold nearests
    exact near_block (nearAt (X m c) (C m c)) t _ fun l k => by dsimp only
  · have h0 : (i 0 : Nat) < 4 := (i 0).isLt
    have h1 : (i 1 : Nat) < 16384 := (i 1).isLt
    have hi := index_5 (pointOf (i 1) h1)
    have hp : (pointOf (i 1) h1).val = (i 1 : Nat) / 1024 := rfl
    refine ⟨pointOf (i 1) h1, flush0_5 _, ?_⟩
    show i ∈ ((View.whole main_v0_3).slice (win0_5.rect (pointOf (i 1) h1))).set
    rw [View.set_slice_whole, Rect.mem_set_unit]
    intro a
    match a with
    | ⟨0, _⟩ =>
      show win0_5.index (pointOf (i 1) h1) 0 * 4 ≤ (i 0 : Nat) ∧ (i 0 : Nat) < win0_5.index (pointOf (i 1) h1) 0 * 4 + 4
      rw [hi.1]; omega
    | ⟨1, _⟩ =>
      show win0_5.index (pointOf (i 1) h1) 1 * 1024 ≤ (i 1 : Nat) ∧ (i 1 : Nat) < win0_5.index (pointOf (i 1) h1) 1 * 1024 + 1024
      rw [hi.2, hp]; omega

theorem distances_eq (c : Dev nD) : (dats m 0 c).arrAt 6 cfg0.N = distances (X m c) (C m c) := by
  refine (dats m 0 c).arrAt_eq_of_cover 6 (distances (X m c) (C m c)) (fun t _ => ?_) fun i => ?_
  · have hi := index_6 t
    show (cfg0.win 6).cut (grid0.coords t) ((dats m 0 c).after 6 t) = _
    rw [after0_6, outs_eq]
    funext j
    have h1 : win0_6.index t 1 * 4 + 1 * (j 1).val = (j 1).val := by rw [hi.2.1]; omega
    have h2 : win0_6.index t 2 * 1024 + 1 * (j 2).val = (j 2).val := by rw [hi.2.2]; omega
    rw [View.read_apply]
    refine Eq.trans ?_ (at_row (fun n k => distAt (rows (X m c) n) (C m c) (win0_6.index t 1 * 4 + 1 * (j 1).val)
      (ix2 k (⟨win0_6.index t 2 * 1024 + 1 * (j 2).val, lt_of_eq_of_lt h2 (j 2).isLt⟩ : Fin 1024)))
      (show win0_6.index t 0 * 1024 + 1 * (j 0).val = t.val * 1024 + 1 * (j 0).val by rw [hi.1]) (j 0).isLt).symm
    dsimp only
    rw [h1]
    exact congrArg (distAt (rows (X m c) t.val) (C m c) (j 1).val) (funext fun a => match a with
      | ⟨0, _⟩ => rfl
      | ⟨1, _⟩ => Fin.ext h2.symm)
  · have h0 : (i 0 : Nat) < 16384 := (i 0).isLt
    have h1 : (i 1 : Nat) < 4 := (i 1).isLt
    have h2 : (i 2 : Nat) < 1024 := (i 2).isLt
    have hi := index_6 (pointOf (i 0) h0)
    have hp : (pointOf (i 0) h0).val = (i 0 : Nat) / 1024 := rfl
    refine ⟨pointOf (i 0) h0, flush0_6 _, ?_⟩
    show i ∈ ((View.whole main_v0_4).slice (win0_6.rect (pointOf (i 0) h0))).set
    rw [View.set_slice_whole, Rect.mem_set_unit]
    intro a
    match a with
    | ⟨0, _⟩ =>
      show win0_6.index (pointOf (i 0) h0) 0 * 1024 ≤ (i 0 : Nat) ∧ (i 0 : Nat) < win0_6.index (pointOf (i 0) h0) 0 * 1024 + 1024
      rw [hi.1, hp]; omega
    | ⟨1, _⟩ =>
      show win0_6.index (pointOf (i 0) h0) 1 * 4 ≤ (i 1 : Nat) ∧ (i 1 : Nat) < win0_6.index (pointOf (i 0) h0) 1 * 4 + 4
      rw [hi.2.1]; omega
    | ⟨2, _⟩ =>
      show win0_6.index (pointOf (i 0) h0) 2 * 1024 ≤ (i 2 : Nat) ∧ (i 2 : Nat) < win0_6.index (pointOf (i 0) h0) 2 * 1024 + 1024
      rw [hi.2.2]; omega

/-- The loss cell is written back once, after the last block. -/
theorem loss_eq (c : Dev nD) : (dats m 0 c).arrAt 4 cfg0.N = acc (X m c) (C m c) 15 := by
  refine (dats m 0 c).arrAt_eq_of_cover 4 (acc (X m c) (C m c) 15) (fun t hf => ?_) fun i => ?_
  · have h15 : t.val = 15 := by have := (flush0_4 t).mp hf; have := lt_N t; omega
    show (cfg0.win 4).cut (grid0.coords t) ((dats m 0 c).after 4 t) = _
    rw [after0_4, outs_eq, h15]
    have hz' : (fun a => win0_4.index t a * main_v0_2.ty.shape.size a) = fun _ => 0 := funext fun a => by fin_cases a <;> rfl
    exact (Memref.read_access_unit_zero (Elt F) main_v0_2 hz' (fun a => by rw [congrFun hz' a]; simp) (acc (X m c) (C m c) 15)).symm
  · have h : 15 < cfg0.N := by rw [show cfg0.N = 16 from N_0]; omega
    have h0 : (i 0 : Nat) < 1 := (i 0).isLt
    have h1 : (i 1 : Nat) < 1 := (i 1).isLt
    refine ⟨⟨15, h⟩, (flush0_4 _).mpr rfl, ?_⟩
    show i ∈ ((View.whole main_v0_2).slice (win0_4.rect ⟨15, h⟩)).set
    rw [View.set_slice_whole, Rect.mem_set_unit]
    intro a
    match a with
    | ⟨0, _⟩ => show 0 * 1 ≤ (i 0 : Nat) ∧ (i 0 : Nat) < 0 * 1 + 1; omega
    | ⟨1, _⟩ => show 0 * 1 ≤ (i 1 : Nat) ∧ (i 1 : Nat) < 0 * 1 + 1; omega

/-! ## The lines after the call, and the run -/

/-- The contents of a core's buffers as the call leaves them. -/
abbrev left (c : Dev nD) : Valuation τ sig (Elt F) :=
  Pipeline.withArrays spec0 c (V0 m c) fun w => (dats m 0 c).arrAt w cfg0.N

theorem left_loss (c : Dev nD) : left m c (Proc.devRef .tc main_v0_2) = acc (X m c) (C m c) 15 :=
  (Pipeline.withArrays_arr spec0 launch0.win.arr_inj c (V0 m c) _ 4).trans (loss_eq m c)

theorem left_nearests (c : Dev nD) : left m c (Proc.devRef .tc main_v0_3) = nearests (X m c) (C m c) :=
  (Pipeline.withArrays_arr spec0 launch0.win.arr_inj c (V0 m c) _ 5).trans (nearests_eq m c)

/-- The scaled loss, from any contents. -/
theorem tail_loss (W : Valuation τ sig (Elt F)) : StableHlo.after (List.flatten [hostOps1]) W (Proc.devRef .tc main_v2)
    = mulf (shapeCast S_ (W (Proc.devRef .tc main_v0_2)) shapeCasts_S1x1_S_) (constant S_ .f32 0x35200000#32) := by
  simp only [hostOps1, List.flatten_cons, List.flatten_nil, List.append_nil]
  after_results <;> rfl

/-- The transposed indices, from any contents. -/
theorem tail_nearests (W : Valuation τ sig (Elt F)) : StableHlo.after (List.flatten [hostOps1]) W (Proc.devRef .tc main_v3)
    = transpose S16384x4 [1, 0] (W (Proc.devRef .tc main_v0_3)) transposes_S4x16384_S16384x4_1_0 := by
  simp only [hostOps1, List.flatten_cons, List.flatten_nil, List.append_nil]
  after_results <;> rfl

/-- The loss as returned. -/
def lossOut (x : FVec F S16384x32 .f32) (c : Vec F S4x1024x32 .f32) : FVec F S_ .f32 :=
  mulf (shapeCast S_ (acc x c 15) shapeCasts_S1x1_S_) (constant S_ .f32 0x35200000#32)

/-- The indices as returned. -/
def nearOut (x : FVec F S16384x32 .f32) (c : Vec F S4x1024x32 .f32) : IVec S16384x4 32 :=
  transpose S16384x4 [1, 0] (nearests x c) transposes_S4x16384_S16384x4_1_0

/-- The five results of every run. -/
theorem run_value (ρ : Dev nD → PrngReg) :
    θ_run defs (onTc (τ := τ) (main (F := F))) ⟨m, fun _ => 0, ρ⟩ fun r => ∀ c : Dev nD,
      r.2.mem ((c : Thread nD τ).loc main_v0_0) = sums (X m c) (C m c)
      ∧ r.2.mem ((c : Thread nD τ).loc main_v0_1) = residuals (X m c) (C m c)
      ∧ r.2.mem ((c : Thread nD τ).loc main_v2) = lossOut (X m c) (C m c)
      ∧ r.2.mem ((c : Thread nD τ).loc main_v3) = nearOut (X m c) (C m c)
      ∧ r.2.mem ((c : Thread nD τ).loc main_v0_4) = distances (X m c) (C m c)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_main m ρ)
  have hw := (h c).1
  have hr := (h c).2
  refine ⟨(hw 2).trans (sums_eq m c), (hw 3).trans (residuals_eq m c),
    (hr main_v2 (Pipeline.mem_restRefs_of main_v2 (by decide) (by decide))).trans ((tail_loss (left m c)).trans ?_),
    (hr main_v3 (Pipeline.mem_restRefs_of main_v3 (by decide) (by decide))).trans ((tail_nearests (left m c)).trans ?_),
    (hw 6).trans (distances_eq m c),
    (hw 0).trans (((dats m 0 c).arrAt_in 0 rfl _).trans ((A_eq m c 0).trans (V_main_arg0 m c))),
    (hw 1).trans (((dats m 0 c).arrAt_in 1 rfl _).trans ((A_eq m c 1).trans (V_main_arg1 m c)))⟩
  · rw [left_loss]; rfl
  · rw [left_nearests]; rfl

end Cert.Proof.Ker

end
-- ==== Proof.RefLevel.lean ====
/-
  The reference's level on the extended reals, row by row: the same distances, the same first minimum, and the code
  at an index that is within the table.
-/
module

public import proofs.«01_k».proof.Proof.RefRun
public import proofs.«01_k».proof.Proof.Spec
public import Idealize.ShloMosaic.Lib.StackMember
public import Idealize.ShloMosaic.Lib.ValueLayout
public import Idealize.ShloMosaic.Lib.Routing.Ops

@[expose] public section

noncomputable section

namespace Cert.Proof.Ref

open Cert.ReferenceIdeal Cert.ReferenceIdeal.Gen Idealize.ShloMosaic Idealize.ShloMosaic.ValueIdx
open scoped BigOperators

theorem rows32 : Shape.Reduces S16384x32 [1] S16384 := by decide
theorem codes32 : Shape.Reduces S1024x32 [1] S1024 := by decide
theorem rows1024 : Shape.Reduces S16384x1024 [1] S16384 := by decide
theorem rows1 : Shape.Reduces S16384x1 [1] S16384 := by decide

theorem sumSq_rows (r : FVec Ideal S16384x32 .f32) (p : Fin 16384) :
    Host.reduceAdd (mulf r r) (constant S_ .f32 0x00000000#32) reducesTo_S16384x32_S16384_d1 h_S_ (ix1 p)
      = ∑ j : Fin 32, r (ix2 p j) * r (ix2 p j) := by
  rw [hostReduceAdd_apply, Ideal.hostReduceAdd_single _ rows32, constant_apply, Ideal.ofBits_zero_f32, zero_add]
  exact Finset.sum_congr rfl fun k _ => congrArg (mulf r r) (Spec.lift_row rows32 p k)

theorem sumSq_codes (e : FVec Ideal S1024x32 .f32) (q : Fin 1024) :
    Host.reduceAdd (mulf e e) (constant S_ .f32 0x00000000#32) reducesTo_S1024x32_S1024_d1 h_S_ (ix1 q)
      = ∑ j : Fin 32, e (ix2 q j) * e (ix2 q j) := by
  rw [hostReduceAdd_apply, Ideal.hostReduceAdd_single _ codes32, constant_apply, Ideal.ofBits_zero_f32, zero_add]
  exact Finset.sum_congr rfl fun k _ => congrArg (mulf e e) (Spec.lift_row codes32 q k)

theorem column_apply {α : Type} (v : S16384.Idx → α) (p : Fin 16384) (q : Fin 1024) :
    broadcastInDim S16384x1024 ![0, 1] bcast_S16384x1_S16384x1024_0_1
      (broadcastInDim S16384x1 ![0] bcast_S16384_S16384x1_0 v) (ix2 p q) = v (ix1 p) :=
  (broadcastInDim_apply _ _ _ (ix2 p q) (ix2 p (0 : Fin 1)) fun a => match a with
    | ⟨0, _⟩ => rfl
    | ⟨1, _⟩ => rfl).trans
  (broadcastInDim_apply _ _ _ _ (ix1 p) fun a => match a with
    | ⟨0, _⟩ => rfl)

theorem row_apply {α : Type} (v : S1024.Idx → α) (p : Fin 16384) (q : Fin 1024) :
    broadcastInDim S16384x1024 ![0, 1] bcast_S1x1024_S16384x1024_0_1
      (broadcastInDim S1x1024 ![1] bcast_S1024_S1x1024_1 v) (ix2 p q) = v (ix1 q) :=
  (broadcastInDim_apply _ _ _ (ix2 p q) (ix2 (0 : Fin 1) q) fun a => match a with
    | ⟨0, _⟩ => rfl
    | ⟨1, _⟩ => rfl).trans
  (broadcastInDim_apply _ _ _ _ (ix1 q) fun a => match a with
    | ⟨0, _⟩ => rfl)

theorem two_f32 : Ideal.ofBits .f32 0x40000000#32 = 2 := by
  simp [Ideal.ofBits, Ideal.ieee, -EReal.coe_mul]
  norm_num
  rfl

theorem two_mul_eq (a : EReal) : 2 * a = a + a := by
  induction a with
  | bot => exact EReal.coe_mul_bot_of_pos (by norm_num : (0 : ℝ) < 2)
  | top => exact EReal.coe_mul_top_of_pos (by norm_num : (0 : ℝ) < 2)
  | coe a => rw [← EReal.coe_add, ← two_mul]; rfl

theorem dists_apply (e : FVec Ideal S1024x32 .f32) (r : FVec Ideal S16384x32 .f32) (p : Fin 16384) (q : Fin 1024) :
    dists (F := Ideal) e r (ix2 p q) = Spec.dist (fun j => r (ix2 p j)) (fun j => e (ix2 q j)) := by
  unfold dists Spec.dist
  rw [subf_apply, addf_apply, column_apply, row_apply, sumSq_rows, sumSq_codes]
  congr 1
  refine (StackMember.dotGeneral_plain_apply none (mulf (broadcastInDim S16384x32 ![] bcast_S_S16384x32
    (constant (F := Ideal) S_ .f32 0x40000000#32)) r) (transpose S32x1024 [1, 0] e transposes_S1024x32_S32x1024_1_0) p q).trans ?_
  refine Finset.sum_congr rfl fun k _ => ?_
  rw [transpose_ix2_apply, mulf_apply, broadcastInDim_scalar_apply, constant_apply, two_f32, two_mul_eq]

/-! ## The first minimum -/

theorem or_bit (x : Bool) : BitVec.ofBool x ||| BitVec.ofBool false = 1#1 ↔ x = true := by cases x <;> decide
theorem or_and_bit (x y z : Bool) :
    (BitVec.ofBool x ||| BitVec.ofBool false) ||| (BitVec.ofBool y &&& BitVec.ofBool z) = 1#1
      ↔ x = true ∨ y = true ∧ z = true := by cases x <;> cases y <;> cases z <;> decide

theorem reducer_eq (a b : EReal × BitVec 32) : reducer_argmin_f32_i32 (F := Ideal) a b = Spec.better a b := by
  obtain ⟨v, i⟩ := a
  obtain ⟨w, j⟩ := b
  have hne : decide (v ≠ v) = false := decide_eq_false fun h => h rfl
  show ((if BitVec.ofBool (decide (v < w)) ||| BitVec.ofBool (decide (v ≠ v)) = 1#1 then v else w),
    (if (BitVec.ofBool (decide (v < w)) ||| BitVec.ofBool (decide (v ≠ v)))
      ||| (BitVec.ofBool (decide (v = w)) &&& BitVec.ofBool (i.slt j)) = 1#1 then i else j)) = _
  rw [hne]
  unfold Spec.better
  simp only [or_bit, or_and_bit, decide_eq_true_eq]

/-- The fold over a row of pairs of value and column ends at the first minimum's column. -/
theorem reduce2_near {a : ℕ} {u : Shape} (d : (⟨2, ![a, 1024]⟩ : Shape).Idx → EReal)
    (h' : Shape.ReducesTo ⟨2, ![a, 1024]⟩ [1] ⟨1, ![a]⟩) (h : Shape.Reduces ⟨2, ![a, 1024]⟩ [1] ⟨1, ![a]⟩)
    (f : EReal × BitVec 32 → EReal × BitVec 32 → EReal × BitVec 32) (hf : ∀ x y, f x y = Spec.better x y)
    (ix : u.Idx → EReal) (hix : ∀ i, ix i = ⊤) (iy : u.Idx → BitVec 32) (hiy : ∀ i, iy i = 0#32) (hu : 0 < u.numel)
    (io : (⟨2, ![a, 1024]⟩ : Shape).Idx → BitVec 32) (hio : ∀ q j, io (ix2 q j) = BitVec.ofNat 32 j.val)
    (p : Fin a) (k : Fin 1024) (hk : Spec.IsNear (fun j => d (ix2 p j)) k) :
    (Host.reduce2 f d io ix iy h' hu (ix1 p)).2 = BitVec.ofNat 32 k.val := by
  unfold Host.reduce2
  rw [hix, hiy]
  refine Eq.trans ?_ (Spec.foldl_better hk
    (fun n => ((⟨2, ![a, 1024]⟩ : Shape).rowMajor.symm n 1 : Fin 1024))
    ((List.finRange (⟨2, ![a, 1024]⟩ : Shape).numel).filter
      fun n => h'.drop ((⟨2, ![a, 1024]⟩ : Shape).rowMajor.symm n) = ix1 p) ?_)
  · refine congrArg Prod.snd (List.foldl_ext _ _ _ fun r n hn => ?_)
    have hn' : h.drop ((⟨2, ![a, 1024]⟩ : Shape).rowMajor.symm n) = ix1 p := of_decide_eq_true (List.mem_filter.mp hn).2
    have hi : (⟨2, ![a, 1024]⟩ : Shape).rowMajor.symm n
        = ix2 p ((⟨2, ![a, 1024]⟩ : Shape).rowMajor.symm n 1 : Fin 1024) := by
      have := h.lift_drop ((⟨2, ![a, 1024]⟩ : Shape).rowMajor.symm n)
      rw [hn'] at this
      exact this.symm.trans (Spec.lift_row h p _)
    rw [hf]
    exact congrArg (Spec.better r) (Prod.ext (congrArg d hi) ((congrArg io hi).trans (hio p _)))
  · intro j
    refine ⟨(⟨2, ![a, 1024]⟩ : Shape).rowMajor (ix2 p j),
      List.mem_filter.mpr ⟨List.mem_finRange _, decide_eq_true ?_⟩, ?_⟩
    · rw [Equiv.symm_apply_apply]
      exact (congrArg h.drop (Spec.lift_row h p j)).symm.trans (h.drop_lift (ix1 p) j)
    · rw [Equiv.symm_apply_apply]
      rfl

theorem inf_f32 : Ideal.ofBits .f32 0x7F800000#32 = ⊤ := by simp [Ideal.ofBits, Ideal.ieee]

/-- The same at the reference's own shape. -/
theorem reduce2_row (d : FVec Ideal S16384x1024 .f32) (p : Fin 16384) (k : Fin 1024)
    (hk : Spec.IsNear (fun j => d (ix2 p j)) k) (io : IVec S16384x1024 32)
    (hio : ∀ q j, io (ix2 q j) = BitVec.ofNat 32 j.val) (f) (hf : ∀ x y, f x y = Spec.better x y)
    (ix : FVec Ideal S_ .f32) (hix : ∀ i, ix i = ⊤) (iy : IVec S_ 32) (hiy : ∀ i, iy i = 0#32)
    (h : S16384x1024.ReducesTo [1] S16384) (hu) : (Host.reduce2 f d io ix iy h hu (ix1 p)).2 = BitVec.ofNat 32 k.val :=
  reduce2_near (a := 16384) d h rows1024 f hf ix hix iy hiy hu io hio p k hk

theorem nearest_def (d : FVec Ideal S16384x1024 .f32) :
    nearest (F := Ideal) d = fun j => (Host.argReduce reducer_argmin_f32_i32 d (iotaInDim S16384x1024 32 1)
      (constant S_ .f32 0x7F800000#32) (constantI S_ 32 0#32) reducesTo_S16384x1024_S16384_d1 h_S_ j).2 := by
  with_reducible (delta nearest; rfl)

theorem argReduce_eq (d : FVec Ideal S16384x1024 .f32) :
    Host.argReduce reducer_argmin_f32_i32 d (iotaInDim S16384x1024 32 1) (constant S_ .f32 0x7F800000#32)
        (constantI S_ 32 0#32) reducesTo_S16384x1024_S16384_d1 h_S_
      = Host.reduce2 reducer_argmin_f32_i32 d (iotaInDim S16384x1024 32 1) (constant S_ .f32 0x7F800000#32)
        (constantI S_ 32 0#32) reducesTo_S16384x1024_S16384_d1 h_S_ := Ideal.argReduce_eq_reduce2 ..

theorem nearest_apply (d : FVec Ideal S16384x1024 .f32) (p : Fin 16384) (k : Fin 1024)
    (hk : Spec.IsNear (fun j => d (ix2 p j)) k) : nearest (F := Ideal) d (ix1 p) = BitVec.ofNat 32 k.val := by
  rw [nearest_def, argReduce_eq]
  exact reduce2_row d p k hk (iotaInDim S16384x1024 32 1) (fun _ _ => rfl) (reducer_argmin_f32_i32 (F := Ideal))
    reducer_eq (constant (F := Ideal) S_ .f32 0x7F800000#32) (fun _ => inf_f32) (constantI S_ 32 0#32) (fun _ => rfl)
    reducesTo_S16384x1024_S16384_d1 h_S_

theorem wrap_apply (i : IVec S16384 32) (p : Fin 16384) (q : Fin 1024) (hi : i (ix1 p) = BitVec.ofNat 32 q.val) :
    wrap (F := Ideal) i (ix2 p (0 : Fin 1)) = BitVec.ofNat 32 q.val := by
  unfold wrap
  refine (broadcastInDim_apply _ _ _ _ (ix1 p) fun a => match a with | ⟨0, _⟩ => rfl).trans ?_
  rw [select_apply]
  have hc : cmpi .slt i (broadcastInDim S16384 ![] bcast_S_S16384 (constantI S_ 32 0#32)) (ix1 p) = 0#1 := by
    show IntOp.cmpi .slt (i (ix1 p)) 0#32 = 0#1
    rw [hi]
    have h := Spec.slt_ofNat (a := q.val) (b := 0) (by have := q.isLt; omega) (by norm_num)
    have h' : (BitVec.ofNat 32 q.val).slt 0#32 = false := by
      rw [← Bool.not_eq_true]
      exact fun hh => Nat.not_lt_zero _ (h.mp hh)
    simp [IntOp.cmpi, h']
  rw [hc, select_zero, hi]

theorem inside_apply (w : IVec S16384x1 32) (p : Fin 16384) (q : Fin 1024)
    (hw : w (ix2 p (0 : Fin 1)) = BitVec.ofNat 32 q.val) : inside (F := Ideal) w (ix1 p) = 1#1 := by
  unfold inside
  rw [Host.reduce_eq_fold]
  have key : andi (cmpi .sge w (broadcastInDim S16384x1 ![] bcast_S_S16384x1 (constantI S_ 32 0#32)))
      (cmpi .sle w (broadcastInDim S16384x1 ![0, 1] bcast_S1x1_S16384x1_0_1
        (broadcastInDim S1x1 ![1] bcast_S1_S1x1_1 (constantI S1 32 1023#32)))) (ix2 p (0 : Fin 1)) = 1#1 := by
    show IntOp.andi (IntOp.cmpi .sge (w (ix2 p 0)) 0#32) (IntOp.cmpi .sle (w (ix2 p 0)) 1023#32) = 1#1
    rw [hw]
    have e : (BitVec.ofNat 32 q.val).toInt = q.val := by
      have := q.isLt
      rw [BitVec.toInt_eq_toNat_of_lt] <;> simp only [BitVec.toNat_ofNat] <;> omega
    have h1 : (0#32).sle (BitVec.ofNat 32 q.val) = true := by
      unfold BitVec.sle; rw [e]; simp
    have h2 : (BitVec.ofNat 32 q.val).sle 1023#32 = true := by
      have := q.isLt
      unfold BitVec.sle; rw [e]; simp; omega
    simp [IntOp.cmpi, h1, h2, IntOp.andi]
  refine (rows1.fold_filter_drop_single IntOp.andi _ _ (ix1 p)).trans ?_
  refine (Finset.fold_singleton (op := IntOp.andi) (f := _) (b := 1#1) (a := (0 : Fin 1))).trans ?_
  refine (congrArg (IntOp.andi · 1#1) ((congrArg _ (Spec.lift_row rows1 p 0)).trans key)).trans (by decide)

theorem lookup_apply (e : FVec Ideal S1024x32 .f32) (i : IVec S16384 32) (p : Fin 16384) (q : Fin 1024)
    (hi : i (ix1 p) = BitVec.ofNat 32 q.val) (j : Fin 32) : lookup (F := Ideal) e i (ix2 p j) = e (ix2 q j) := by
  unfold lookup
  rw [select_apply]
  have hb : broadcastInDim S16384x32 ![0] bcast_S16384_S16384x32_0 (inside (F := Ideal) (wrap (F := Ideal) i)) (ix2 p j)
      = 1#1 :=
    (broadcastInDim_apply _ _ _ _ (ix1 p) fun a => match a with | ⟨0, _⟩ => rfl).trans
      (inside_apply _ p q (wrap_apply i p q hi))
  rw [hb, select_one]
  exact Routing.gather_row _ rfl rfl rfl rfl rfl e _ p j q (wrap_apply i p q hi) (by norm_num)

/-! ## The codebook of a level and the mean square -/

theorem book_apply (l : Fin 4) (c : FVec Ideal S4x1024x32 .f32) (p : Fin 1024) (j : Fin 32) :
    book (F := Ideal) l c (ix2 p j) = c (ix3 l p j) := by
  unfold book
  refine (shapeCast_1ab_ab_apply _ _ p j).trans ?_
  exact extractStridedSlice_apply _ _ _ _ (ix3 l p j) fun a => match a with
    | ⟨0, _⟩ => rfl
    | ⟨1, _⟩ => by show p.val = 0 + p.val; omega
    | ⟨2, _⟩ => by show j.val = 0 + j.val; omega

/-- The squared differences summed. -/
def total (r q : Mat Ideal) : EReal :=
  ∑ p : Fin 16384, ∑ j : Fin 32, (r (ix2 p j) - q (ix2 p j)) * (r (ix2 p j) - q (ix2 p j))

theorem meanSq_apply (r q : Mat Ideal) (j : S_.Idx) :
    meanSq r q j = Ideal.div (total r q) (Ideal.ofBits .f32 0x49000000#32) := by
  unfold meanSq total
  rw [hostDivf_apply, hostReduceAdd_apply, Ideal.hostReduceAdd_total _ (fun b => b.elim0), constant_apply, constant_apply,
    Ideal.ofBits_zero_f32, zero_add, sum_idx2]
  rfl

end Cert.Proof.Ref

end
-- ==== Proof.Levels.lean ====
/-
  The two sides level by level: row `k` of block `n` is row `1024 n + k` of the whole, and each level takes equal rows
  to equal distances, indices, codes and residuals.
-/
module

public import proofs.«01_k».proof.Proof.KerLevel
public import proofs.«01_k».proof.Proof.KerArray
public import proofs.«01_k».proof.Proof.RefLevel

@[expose] public section

noncomputable section

namespace Cert.Proof.Levels

open Idealize.ShloMosaic Idealize.ShloMosaic.ValueIdx
open scoped BigOperators

/-- All rows. -/
abbrev Rows : Type := FVec Ideal Cert.KernelIdeal.S16384x32 .f32
/-- The four codebooks. -/
abbrev Books : Type := Vec Ideal Cert.KernelIdeal.S4x1024x32 .f32

/-- No entry of the codebooks is infinite. -/
def Finite (c : Books) : Prop := ∀ i, c i ≠ ⊤ ∧ c i ≠ ⊥

/-- The number of row `k` of block `n`. -/
abbrev rowAt (n : ℕ) (k : Fin 1024) : Fin 16384 := Fin.ofNat 16384 (1024 * n + k.val)

theorem rowAt_div (i : Fin 16384) : rowAt (i.val / 1024) (Ker.inBlk i.val) = i := by
  have := i.isLt
  apply Fin.ext
  show (1024 * (i.val / 1024) + i.val % 1024) % 16384 = i.val
  omega

/-- A block holds the rows of its place in the whole. -/
def Holds (n : ℕ) (r : Ker.Blk Ideal) (r' : Rows) : Prop := ∀ (k : Fin 1024) (j : Fin 32), r (ix2 k j) = r' (ix2 (rowAt n k) j)

variable {n : ℕ} {r : Ker.Blk Ideal} {r' : Rows} {c : Books}

theorem dists_eq (h : Holds n r r') (l : Fin 4) (k q : Fin 1024) :
    Ker.dists (Ker.book l c) r (ix2 k q) = Ref.dists (F := Ideal) (Ref.book (F := Ideal) l c) r' (ix2 (rowAt n k) q) := by
  refine (Ker.dists_apply _ _ k q).trans (Eq.trans ?_ (Ref.dists_apply _ _ (rowAt n k) q).symm)
  refine congrArg₂ Spec.dist (funext fun j => h k j) (funext fun j => ?_)
  exact (Ker.book_apply l c q j).trans (Ref.book_apply l c q j).symm

/-- Both indices of a row name the first code at the least distance. -/
theorem nearest_at (h : Holds n r r') (l : Fin 4) (k : Fin 1024) :
    ∃ q : Fin 1024, Ker.nearest (Ker.dists (Ker.book l c) r) (ix1 k) = BitVec.ofNat 32 q.val
      ∧ Ref.nearest (F := Ideal) (Ref.dists (F := Ideal) (Ref.book (F := Ideal) l c) r') (ix1 (rowAt n k)) = BitVec.ofNat 32 q.val := by
  obtain ⟨q, hq⟩ := Spec.exists_isNear fun j => Ref.dists (F := Ideal) (Ref.book (F := Ideal) l c) r' (ix2 (rowAt n k) j)
  refine ⟨q, Ker.nearest_apply _ k q ?_, Ref.nearest_apply _ (rowAt n k) q hq⟩
  rwa [show (fun j => Ker.dists (Ker.book l c) r (ix2 k j)) = _ from funext fun j => dists_eq h l k j]

theorem code_eq (hc : Finite c) (h : Holds n r r') (l : Fin 4) :
    Holds n (Ker.codeOf (Ker.book l c) r) (Ref.codeOf (F := Ideal) (Ref.book (F := Ideal) l c) r') := by
  intro k j
  obtain ⟨q, hk, hr⟩ := nearest_at (c := c) h l k
  have hb : ∀ i, Ker.book l c i ≠ ⊤ ∧ Ker.book l c i ≠ ⊥ := fun i => by
    rw [(congrArg (Ker.book l c) (eq_ix2 i)).trans (Ker.book_apply l c (i 0) (i 1))]
    exact hc _
  refine (Ker.lookup_apply _ hb _ k q hk j).trans (Eq.trans ?_ (Ref.lookup_apply _ _ (rowAt n k) q hr j).symm)
  exact (Ker.book_apply l c q j).trans (Ref.book_apply l c q j).symm

variable (x : Rows)

theorem res_eq (hc : Finite c) (n l : ℕ) : Holds n (Ker.resAt (Ker.rows x n) c l) (Ref.resAt (F := Ideal) x c l) := by
  induction l with
  | zero => exact fun k j => rfl
  | succ l ih =>
    intro k j
    have hq := code_eq hc ih (Ker.lv l) k j
    have hr := ih k j
    unfold Ker.resAt Ref.resAt Ker.stepOf Ref.stepOf
    exact congrArg₂ (fun a b : EReal => a - (a + (b - a))) hr hq

theorem sum_eq (hc : Finite c) (n l : ℕ) : Holds n (Ker.sumAt (Ker.rows x n) c l) (Ref.sumAt (F := Ideal) x c l) := by
  induction l with
  | zero => exact fun k j => rfl
  | succ l ih =>
    intro k j
    have hq := code_eq hc (res_eq x hc n l) (Ker.lv l) k j
    have hr := res_eq x hc n l k j
    have hs := ih k j
    unfold Ker.sumAt Ref.sumAt Ker.stepOf Ref.stepOf
    exact congr (congrArg₂ (fun a b s : EReal => s + (a + (b - a))) hr hq) hs

/-- The squared differences of a level over block `n`, read off the whole. -/
theorem sq_eq (hc : Finite c) (n : ℕ) (l : Fin 4) :
    Ker.sqSum (Ker.resAt (Ker.rows x n) c l.val) (Ker.codeOf (Ker.book l c) (Ker.resAt (Ker.rows x n) c l.val))
      = ∑ k : Fin 1024, ∑ j : Fin 32,
        (Ref.resAt (F := Ideal) x c l.val (ix2 (rowAt n k) j)
          - Ref.codeOf (F := Ideal) (Ref.book (F := Ideal) l c) (Ref.resAt (F := Ideal) x c l.val) (ix2 (rowAt n k) j))
        * (Ref.resAt (F := Ideal) x c l.val (ix2 (rowAt n k) j)
          - Ref.codeOf (F := Ideal) (Ref.book (F := Ideal) l c) (Ref.resAt (F := Ideal) x c l.val) (ix2 (rowAt n k) j)) := by
  refine (Ker.sqSum_apply _ _).trans (Finset.sum_congr rfl fun k _ => Finset.sum_congr rfl fun j _ => ?_)
  rw [res_eq x hc n l.val k j, code_eq hc (res_eq x hc n l.val) l k j]

end Cert.Proof.Levels

end
-- ==== Proof.Loss.lean ====
/-
  The loss: the kernel scales the sum of all squared differences once, the reference takes each level's mean, adds a
  quarter of it and averages the levels. Every factor is a nonnegative real, so the two agree on the extended reals.
-/
module

public import proofs.«01_k».proof.Proof.Levels

@[expose] public section

noncomputable section

namespace Cert.Proof.Levels

open Idealize.ShloMosaic Idealize.ShloMosaic.ValueIdx
open scoped BigOperators

/-! ## The factors -/

theorem scale_f32 : Ideal.ofBits .f32 0x35200000#32 = ((5 / 8388608 : ℝ) : EReal) := by
  simp [Ideal.ofBits, Ideal.ieee, -EReal.coe_mul]
  norm_num

theorem quarter_f32 : Ideal.ofBits .f32 0x3E800000#32 = ((1 / 4 : ℝ) : EReal) := by
  simp [Ideal.ofBits, Ideal.ieee, -EReal.coe_mul]
  norm_num

theorem four_f32 : Ideal.ofBits .f32 0x40800000#32 = ((4 : ℝ) : EReal) := by
  simp [Ideal.ofBits, Ideal.ieee, -EReal.coe_mul]
  norm_num

theorem count_f32 : Ideal.ofBits .f32 0x49000000#32 = ((524288 : ℝ) : EReal) := by
  simp [Ideal.ofBits, Ideal.ieee, -EReal.coe_mul]
  norm_num

/-- A mean and a quarter of it. -/
theorem mean_add_quarter (t : EReal) :
    Ideal.div t ((524288 : ℝ) : EReal) + ((1 / 4 : ℝ) : EReal) * Ideal.div t ((524288 : ℝ) : EReal)
      = t * ((5 / 2097152 : ℝ) : EReal) := by
  rw [Ideal.div_coe (by norm_num), mul_comm ((1 / 4 : ℝ) : EReal), mul_assoc, ← EReal.coe_mul,
    ← EReal.left_distrib_of_nonneg (EReal.coe_nonneg.mpr (by norm_num)) (EReal.coe_nonneg.mpr (by norm_num)), ← EReal.coe_add]
  norm_num

/-- The four levels' means averaged are the sum of all scaled once. -/
theorem average (t : Fin 4 → EReal) :
    Ideal.div (0 + ∑ l, t l * ((5 / 2097152 : ℝ) : EReal)) ((4 : ℝ) : EReal)
      = (∑ l, t l) * ((5 / 8388608 : ℝ) : EReal) := by
  have h0 : (0 : EReal) ≤ ((5 / 2097152 : ℝ) : EReal) := EReal.coe_nonneg.mpr (by norm_num)
  have h1 := EReal.coe_ne_top (5 / 2097152)
  rw [Ideal.div_coe (by norm_num), zero_add, Fin.sum_univ_four, Fin.sum_univ_four,
    ← EReal.right_distrib_of_nonneg_of_ne_top h0 h1, ← EReal.right_distrib_of_nonneg_of_ne_top h0 h1,
    ← EReal.right_distrib_of_nonneg_of_ne_top h0 h1, mul_assoc, ← EReal.coe_mul]
  norm_num

/-! ## The kernel's sum -/

/-- The rows of the sixteen blocks are all rows. -/
theorem sum_rows (g : Fin 16384 → EReal) : ∑ n : Fin 16, ∑ k : Fin 1024, g (rowAt n.val k) = ∑ p, g p := by
  rw [← Fintype.sum_prod_type' (fun (n : Fin 16) (k : Fin 1024) => g (rowAt n.val k))]
  refine Fintype.sum_equiv (finProdFinEquiv : Fin 16 × Fin 1024 ≃ Fin 16384) _ _ fun a => congrArg g (Fin.ext ?_)
  have h0 := a.1.isLt
  have h1 := a.2.isLt
  show (1024 * a.1.val + a.2.val) % 16384 = a.2.val + 1024 * a.1.val
  omega

theorem sqAt_eq (b : Ker.Blk Ideal) (c : Books) : Ker.sqAt b c 4
    = ∑ l : Fin 4, Ker.sqSum (Ker.resAt b c l.val) (Ker.codeOf (Ker.book l c) (Ker.resAt b c l.val)) := by
  rw [Fin.sum_univ_four]
  show (((Ideal.ofBits .f32 0x00000000#32 + _) + _) + _) + _ = _
  rw [Ideal.ofBits_zero_f32, zero_add]
  rfl

theorem acc_eq (x : Rows) (c : Books) (n : ℕ) (i : Cert.KernelIdeal.S1x1.Idx) :
    Ker.acc x c n i = ∑ m ∈ Finset.range (n + 1), Ker.sqAt (Ker.rows x m) c 4 := by
  induction n with
  | zero =>
    show Ideal.ofBits .f32 0x00000000#32 + Ker.sqAt (Ker.rows x 0) c 4 = _
    rw [Ideal.ofBits_zero_f32, zero_add, Finset.sum_range_one]
  | succ n ih =>
    rw [Finset.sum_range_succ, ← ih]
    rfl

/-- Level `l`'s squared differences summed over all rows. -/
def totalAt (x : Rows) (c : Books) (l : Fin 4) : EReal :=
  Ref.total (Ref.resAt (F := Ideal) x c l.val) (Ref.codeOf (F := Ideal) (Ref.book (F := Ideal) l c) (Ref.resAt (F := Ideal) x c l.val))

theorem acc_total (x : Rows) {c : Books} (hc : Finite c) (i : Cert.KernelIdeal.S1x1.Idx) :
    Ker.acc x c 15 i = ∑ l, totalAt x c l := by
  rw [acc_eq, Finset.sum_range]
  simp only [sqAt_eq]
  rw [Finset.sum_comm]
  refine Finset.sum_congr rfl fun l _ => ?_
  simp only [sq_eq x hc]
  exact sum_rows fun p => ∑ j : Fin 32,
    (Ref.resAt (F := Ideal) x c l.val (ix2 p j)
      - Ref.codeOf (F := Ideal) (Ref.book (F := Ideal) l c) (Ref.resAt (F := Ideal) x c l.val) (ix2 p j))
    * (Ref.resAt (F := Ideal) x c l.val (ix2 p j)
      - Ref.codeOf (F := Ideal) (Ref.book (F := Ideal) l c) (Ref.resAt (F := Ideal) x c l.val) (ix2 p j))

/-! ## The reference's average -/

theorem lossOf_eq (r q : Ref.Mat Ideal) (j : Cert.ReferenceIdeal.S_.Idx) :
    Ref.lossOf r q j = Ref.total r q * ((5 / 2097152 : ℝ) : EReal) := by
  unfold Ref.lossOf
  rw [addf_apply, mulf_apply, constant_apply, Ref.meanSq_apply, count_f32, quarter_f32, mean_add_quarter]

theorem cat1_apply (p : Fin 4 → FVec Ideal Cert.ReferenceIdeal.S1 .f32) (l : Fin 4) :
    Ref.cat1 (F := Ideal) (p 0) (p 1) (p 2) (p 3) (ix1 l) = p l (ix1 (0 : Fin 1)) := by
  unfold Ref.cat1
  exact concatenate_ofFn_unit_apply (t := Cert.ReferenceIdeal.S4) (s₁ := Cert.ReferenceIdeal.S1) (0 : Fin 1) (N := 4)
    (fun n : Fin 4 => p n) Cert.ReferenceIdeal.Gen.concatenates_S1_S1_S1_S1_S4_d0 rfl rfl (ix1 l) l rfl (ix1 (0 : Fin 1))
    fun b hb => match b with | ⟨0, _⟩ => absurd rfl hb

theorem lossAll_eq (x : Rows) (c : Books) (j : Cert.ReferenceIdeal.S_.Idx) :
    Ref.lossAll (F := Ideal) x c j = (∑ l, totalAt x c l) * ((5 / 8388608 : ℝ) : EReal) := by
  unfold Ref.lossAll
  dsimp only
  rw [hostDivf_apply, hostReduceAdd_apply, Ideal.hostReduceAdd_total _ (fun b => b.elim0), constant_apply, constant_apply,
    Ideal.ofBits_zero_f32, four_f32, ← average]
  refine congrArg (fun s => Ideal.div (0 + s) ((4 : ℝ) : EReal)) ?_
  refine (Fintype.sum_equiv (⟨fun i => i 0, fun l => ix1 l, fun i => (eq_ix1 i).symm, fun l => rfl⟩ :
    Cert.ReferenceIdeal.S4.Idx ≃ Fin 4) _ _ fun i => ?_)
  rw [eq_ix1 i]
  refine (cat1_apply (fun l => broadcastInDim Cert.ReferenceIdeal.S1 ![] Cert.ReferenceIdeal.Gen.bcast_S_S1
    (Ref.lossOf (Ref.resAt (F := Ideal) x c l.val) (Ref.codeOf (F := Ideal) (Ref.book (F := Ideal) l c)
      (Ref.resAt (F := Ideal) x c l.val)))) (i 0)).trans ?_
  exact (broadcastInDim_scalar_apply _ _ _).trans (lossOf_eq _ _ _)

/-- The two losses. -/
theorem loss_eq (x : Rows) {c : Books} (hc : Finite c) : Ker.lossOut x c = Ref.lossAll (F := Ideal) x c := by
  funext j
  refine Eq.trans ?_ (lossAll_eq x c j).symm
  unfold Ker.lossOut
  rw [mulf_apply, constant_apply, scale_f32]
  exact congrArg (· * ((5 / 8388608 : ℝ) : EReal)) (acc_total x hc _)

end Cert.Proof.Levels

end
-- ==== Proof.Results.lean ====
/-
  The kernel's five results are the reference's.
-/
module

public import proofs.«01_k».proof.Proof.Loss

@[expose] public section

noncomputable section

namespace Cert.Proof.Levels

open Idealize.ShloMosaic Idealize.ShloMosaic.ValueIdx

variable (x : Rows) {c : Books}

theorem sums_eq (hc : Finite c) : Ker.sums x c = Ref.sumAt (F := Ideal) x c 4 := by
  funext i
  rw [eq_ix2 i]
  refine (sum_eq x hc _ 4 _ _).trans (congrArg (fun p => Ref.sumAt (F := Ideal) x c 4 (ix2 p (i 1))) (rowAt_div (i 0)))

theorem residuals_eq (hc : Finite c) : Ker.residuals x c = Ref.resAt (F := Ideal) x c 4 := by
  funext i
  rw [eq_ix2 i]
  refine (res_eq x hc _ 4 _ _).trans (congrArg (fun p => Ref.resAt (F := Ideal) x c 4 (ix2 p (i 1))) (rowAt_div (i 0)))

theorem lv_val (l : Fin 4) : Ker.lv l.val = l := Fin.ofNat_val_eq_self l

/-- A row's index at a level. -/
theorem nearAt_eq (hc : Finite c) (l : Fin 4) (p : Fin 16384) :
    Ker.nearAt x c (p.val / 1024) l.val (Ker.inBlk p.val)
      = Ref.nearest (F := Ideal) (Ref.dists (F := Ideal) (Ref.book (F := Ideal) l c) (Ref.resAt (F := Ideal) x c l.val)) (ix1 p) := by
  obtain ⟨q, hk, hr⟩ := nearest_at (c := c) (res_eq x hc (p.val / 1024) l.val) l (Ker.inBlk p.val)
  unfold Ker.nearAt Ker.distAt
  rw [lv_val, hk, ← hr, rowAt_div]

/-- Indices as a column. -/
abbrev column (v : IVec Cert.ReferenceIdeal.S16384 32) : IVec Cert.ReferenceIdeal.S16384x1 32 :=
  broadcastInDim Cert.ReferenceIdeal.S16384x1 ![0] Cert.ReferenceIdeal.Gen.bcast_S16384_S16384x1_0 v

theorem cat2_apply (f : Fin 4 → IVec Cert.ReferenceIdeal.S16384x1 32) (p : Fin 16384) (l : Fin 4) :
    Ref.cat2 (F := Ideal) (f 0) (f 1) (f 2) (f 3) (ix2 p l) = f l (ix2 p (0 : Fin 1)) := by
  unfold Ref.cat2
  exact concatenate_ofFn_unit_apply (t := Cert.ReferenceIdeal.S16384x4) (s₁ := Cert.ReferenceIdeal.S16384x1) (1 : Fin 2) (N := 4)
    (fun n : Fin 4 => f n) Cert.ReferenceIdeal.Gen.concatenates_S16384x1_S16384x1_S16384x1_S16384x1_S16384x4_d1 rfl rfl
    (ix2 p l) l rfl (ix2 p (0 : Fin 1)) fun b hb => match b with
      | ⟨0, _⟩ => rfl
      | ⟨1, _⟩ => absurd rfl hb

theorem columns_apply (g : Fin 4 → IVec Cert.ReferenceIdeal.S16384 32) (p : Fin 16384) (l : Fin 4) :
    Ref.cat2 (F := Ideal) (column (g 0)) (column (g 1)) (column (g 2)) (column (g 3)) (ix2 p l) = g l (ix1 p) :=
  (cat2_apply (fun l => column (g l)) p l).trans
    (broadcastInDim_apply _ _ _ _ (ix1 p) fun a => match a with | ⟨0, _⟩ => rfl)

theorem idxAll_apply (c : Books) (p : Fin 16384) (l : Fin 4) : Ref.idxAll (F := Ideal) x c (ix2 p l)
    = Ref.nearest (F := Ideal) (Ref.dists (F := Ideal) (Ref.book (F := Ideal) l c) (Ref.resAt (F := Ideal) x c l.val)) (ix1 p) := by
  unfold Ref.idxAll
  with_reducible exact columns_apply (fun l => Ref.nearest (F := Ideal)
    (Ref.dists (F := Ideal) (Ref.book (F := Ideal) l c) (Ref.resAt (F := Ideal) x c l.val))) p l

theorem near_at (hc : Finite c) (p : Fin 16384) (l : Fin 4) :
    Ker.nearOut x c (ix2 p l) = Ref.idxAll (F := Ideal) x c (ix2 p l) := by
  rw [idxAll_apply, ← nearAt_eq x hc]
  unfold Ker.nearOut
  exact transpose_ix2_apply _ _ _ _

theorem near_eq (hc : Finite c) : Ker.nearOut x c = Ref.idxAll (F := Ideal) x c := by
  funext i
  rw [eq_ix2 i]
  exact near_at x hc (i 0) (i 1)

/-- Distances as a plane. -/
abbrev plane (v : FVec Ideal Cert.ReferenceIdeal.S16384x1024 .f32) : FVec Ideal Cert.ReferenceIdeal.S16384x1x1024 .f32 :=
  broadcastInDim Cert.ReferenceIdeal.S16384x1x1024 ![0, 2] Cert.ReferenceIdeal.Gen.bcast_S16384x1024_S16384x1x1024_0_2 v

theorem cat3_apply (f : Fin 4 → FVec Ideal Cert.ReferenceIdeal.S16384x1x1024 .f32) (p : Fin 16384) (l : Fin 4) (q : Fin 1024) :
    Ref.cat3 (F := Ideal) (f 0) (f 1) (f 2) (f 3) (ix3 p l q) = f l (ix3 p (0 : Fin 1) q) := by
  unfold Ref.cat3
  exact concatenate_ofFn_unit_apply (t := Cert.ReferenceIdeal.S16384x4x1024) (s₁ := Cert.ReferenceIdeal.S16384x1x1024) (1 : Fin 3)
    (N := 4) (fun n : Fin 4 => f n)
    Cert.ReferenceIdeal.Gen.concatenates_S16384x1x1024_S16384x1x1024_S16384x1x1024_S16384x1x1024_S16384x4x1024_d1 rfl rfl
    (ix3 p l q) l rfl (ix3 p (0 : Fin 1) q) fun b hb => match b with
      | ⟨0, _⟩ => rfl
      | ⟨1, _⟩ => absurd rfl hb
      | ⟨2, _⟩ => rfl

/-- A row's distances at a level. -/
theorem distAt_eq (hc : Finite c) (l : Fin 4) (p : Fin 16384) (q : Fin 1024) :
    Ker.distAt (Ker.rows x (p.val / 1024)) c l.val (ix2 (Ker.inBlk p.val) q)
      = Ref.dists (F := Ideal) (Ref.book (F := Ideal) l c) (Ref.resAt (F := Ideal) x c l.val) (ix2 p q) := by
  unfold Ker.distAt
  rw [lv_val, dists_eq (res_eq x hc (p.val / 1024) l.val) l, rowAt_div]

theorem planes_apply (g : Fin 4 → FVec Ideal Cert.ReferenceIdeal.S16384x1024 .f32) (p : Fin 16384) (l : Fin 4) (q : Fin 1024) :
    Ref.cat3 (F := Ideal) (plane (g 0)) (plane (g 1)) (plane (g 2)) (plane (g 3)) (ix3 p l q) = g l (ix2 p q) :=
  (cat3_apply (fun l => plane (g l)) p l q).trans
    (broadcastInDim_apply _ _ _ _ (ix2 p q) fun a => match a with
      | ⟨0, _⟩ => rfl
      | ⟨1, _⟩ => rfl)

theorem distAll_apply (c : Books) (p : Fin 16384) (l : Fin 4) (q : Fin 1024) : Ref.distAll (F := Ideal) x c (ix3 p l q)
    = Ref.dists (F := Ideal) (Ref.book (F := Ideal) l c) (Ref.resAt (F := Ideal) x c l.val) (ix2 p q) := by
  unfold Ref.distAll
  with_reducible exact planes_apply (fun l => Ref.dists (F := Ideal) (Ref.book (F := Ideal) l c)
    (Ref.resAt (F := Ideal) x c l.val)) p l q

theorem distances_at (hc : Finite c) (p : Fin 16384) (l : Fin 4) (q : Fin 1024) :
    Ker.distances x c (ix3 p l q) = Ref.distAll (F := Ideal) x c (ix3 p l q) := by
  rw [distAll_apply, ← distAt_eq x hc]
  rfl

theorem distances_eq (hc : Finite c) : Ker.distances x c = Ref.distAll (F := Ideal) x c := by
  funext i
  rw [eq_ix3 i]
  exact distances_at x hc (i 0) (i 1) (i 2)

end Cert.Proof.Levels

end
-- ==== Proof.lean ====
/-
  The claim: the programs run, leave their arguments unchanged and every semaphore at zero, and the kernel's
  results are the reference's, exactly, over the extended reals, whenever no codebook entry is infinite.
-/
module

public import proofs.«01_k».proof.Defs
public import proofs.«01_k».proof.Proof.Frames
public import proofs.«01_k».proof.Proof.Results

@[expose] public section

noncomputable section

namespace Cert.Proof

open Idealize.ShloMosaic Idealize.ShloMosaic.ValueIdx Idealize.SL.Sem

theorem facts_finite : Cert.Pre_finite_codebooks.Facts where
  bcast_S_S4x1024x32 := by decide

/-- An entry whose size is below infinity is neither infinity. -/
theorem finite_of_lt (a : EReal) (h : BitVec.ofBool (decide (max a (-a) < ⊤)) = 1#1) : a ≠ ⊤ ∧ a ≠ ⊥ := by
  have h' : max a (-a) < ⊤ := by
    by_contra hn
    rw [decide_eq_false hn] at h
    exact absurd h (by decide)
  refine ⟨fun e => ?_, fun e => ?_⟩ <;> rw [e] at h' <;> simp at h'

theorem finite_of_pre (x : Levels.Rows) (c : Levels.Books)
    (h : @Cert.Pre_finite_codebooks.fn facts_finite Ideal _ x c = fun _ => 1#1) : Levels.Finite c := by
  intro i
  have hi := congrFun h i
  have ht : broadcastInDim Cert.Pre_finite_codebooks.S4x1024x32 ![] facts_finite.bcast_S_S4x1024x32
      (constant (F := Ideal) Cert.Pre_finite_codebooks.S_ .f32 0x7F800000#32) i = (⊤ : EReal) :=
    (broadcastInDim_scalar_apply _ _ _).trans Ref.inf_f32
  refine finite_of_lt (c i) (Eq.trans ?_ hi)
  exact congrArg (fun t : EReal => BitVec.ofBool (decide (max (c i) (-(c i)) < t))) ht.symm

theorem algebraic : @Cert.algebraic_KernelIdeal_ReferenceIdeal_pre_finite_codebooks Cert.KernelIdeal.Gen.facts
    Cert.ReferenceIdeal.Gen.facts facts_finite := by
  intro m g m' g' hpre hargs
  have hx : ∀ c : Dev Cert.ReferenceIdeal.nD, m' ((c.tc : Thread Cert.ReferenceIdeal.nD Cert.ReferenceIdeal.τ).loc Cert.ReferenceIdeal.main_arg0) = Ker.X m c :=
    fun c => (hargs c).1
  have hb : ∀ c : Dev Cert.ReferenceIdeal.nD, m' ((c.tc : Thread Cert.ReferenceIdeal.nD Cert.ReferenceIdeal.τ).loc Cert.ReferenceIdeal.main_arg1) = Ker.C m c :=
    fun c => (hargs c).2
  have hc : ∀ c, Levels.Finite (Ker.C m c) := fun c => finite_of_pre (Ker.X m c) (Ker.C m c) (hpre c)
  refine ⟨fun c => Ker.sums (Ker.X m c) (Ker.C m c), fun c => Ker.residuals (Ker.X m c) (Ker.C m c),
    fun c => Ker.lossOut (Ker.X m c) (Ker.C m c), fun c => Ker.nearOut (Ker.X m c) (Ker.C m c),
    fun c => Ker.distances (Ker.X m c) (Ker.C m c), Ker.run_value m g, ?_⟩
  refine (θ_run _ _ _).mono (fun r h c => ?_) (Ref.run_value m' g')
  obtain ⟨h0, h1, h2, h3, h4, h5, h6⟩ := h c
  rw [hx, hb] at h0 h1 h2 h3 h4
  exact ⟨h0.trans (Levels.sums_eq _ (hc c)).symm, h1.trans (Levels.residuals_eq _ (hc c)).symm,
    h2.trans (Levels.loss_eq _ (hc c)).symm, h3.trans (Levels.near_eq _ (hc c)).symm,
    h4.trans (Levels.distances_eq _ (hc c)).symm, h5, h6⟩

theorem claim : Cert.Claim :=
  ⟨Cert.Kernel.Gen.facts, Cert.KernelIdeal.Gen.facts, Cert.ReferenceIdeal.Gen.facts, facts_finite, frame_kernel,
    frame_kernelIdeal, fun m ρ _ => frame_kernelIdeal m ρ trivial, frame_reference,
    fun m ρ _ => frame_reference m ρ trivial, trivial, algebraic⟩

end Cert.Proof

end
